-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x8192 : Shape := ⟨2, ![4096, 8192]⟩
abbrev S1 : Shape := ⟨1, ![1]⟩
abbrev S4096x2048 : Shape := ⟨2, ![4096, 2048]⟩
abbrev S4x512x4096 : Shape := ⟨3, ![4, 512, 4096]⟩
abbrev S2x4096x256 : Shape := ⟨3, ![2, 4096, 256]⟩
abbrev S512x4096 : Shape := ⟨2, ![512, 4096]⟩
abbrev S2 : Shape := ⟨1, ![2]⟩
abbrev S_ : Shape := ⟨0, ![]⟩
abbrev S3 : Shape := ⟨1, ![3]⟩
abbrev S1x4096x256 : Shape := ⟨3, ![1, 4096, 256]⟩
abbrev S4096x256 : Shape := ⟨2, ![4096, 256]⟩
abbrev S1x512x4096 : Shape := ⟨3, ![1, 512, 4096]⟩
abbrev S512x2048 : Shape := ⟨2, ![512, 2048]⟩

abbrev nBuf : Space → Nat
  | .hbm => 5
  | .vmem => 6
  | .smem => 2
  | _ => 0

abbrev bufTy : (tb : Table) → Fin (tcTables nBuf tb) → BufTy
  | .hbm, ⟨0, _⟩ => ⟨S1024x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x2048, .bf16⟩
  | .local _ .vmem, ⟨0, _⟩ => ⟨S4096x2048, .bf16⟩
  | .local _ .vmem, ⟨1, _⟩ => ⟨S4x512x4096, .fp8e4m3⟩
  | .local _ .vmem, ⟨2, _⟩ => ⟨S4x512x4096, .fp8e4m3⟩
  | .local _ .vmem, ⟨3, _⟩ => ⟨S4096x2048, .fp8e5m2⟩
  | .local _ .vmem, ⟨4, _⟩ => ⟨S2x4096x256, .f32⟩
  | .local _ .vmem, ⟨5, _⟩ => ⟨S512x4096, .f32⟩
  | .local _ .smem, ⟨0, _⟩ => ⟨S1, .f32⟩
  | .local _ .smem, ⟨1, _⟩ => ⟨S1, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) (c0_i32_4 : BitVec 32) : Fin 2 → Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v7 : BitVec 32 := Scalar.muli v2 c2048_i32
  let v9 : BitVec 32 := Scalar.addi v7 c0_i32_4
  ![0, v9.toNat]
def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_16 : BitVec 32 := 1#32
  let v22 : BitVec 32 := Scalar.muli v4 c1_i32_16
  let v23 : BitVec 32 := Scalar.addi c0_i32_17 v22
  v23.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_19 : BitVec 32 := 1#32
  let v24 : BitVec 32 := Scalar.muli v6 c1_i32_19
  let v25 : BitVec 32 := Scalar.addi c0_i32_20 v24
  v25.toNat
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_33 : BitVec 32 := 1#32
  let v35 : BitVec 32 := Scalar.muli v6 c1_i32_33
  let v36 : BitVec 32 := Scalar.addi c0_i32_34 v35
  v36.toNat
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_51 : BitVec 32 := 1#32
  let v52 : BitVec 32 := Scalar.muli v4 c1_i32_51
  let v53 : BitVec 32 := Scalar.addi c0_i32_52 v52
  v53.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_173 : BitVec 32 := 1024#32
  let v201 : BitVec 32 := Scalar.muli v2 c1024_i32_173
  let v202 : Index := Scalar.indexCast v201
  let c0_174 : Index := 0#32
  ![v202.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_181 : BitVec 32 := 1024#32
  let v211 : BitVec 32 := Scalar.muli v2 c1024_i32_181
  let c512_i32_182 : BitVec 32 := 512#32
  let v212 : BitVec 32 := Scalar.addi v211 c512_i32_182
  let v213 : Index := Scalar.indexCast v212
  let c0_183 : Index := 0#32
  ![v213.toNat, 0]
def k0_dev5 (d0 : Dev nD) : Nat :=
  let c0_i32_199 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_198 : BitVec 32 := 1#32
  let v223 : BitVec 32 := Scalar.muli v6 c1_i32_198
  let v224 : BitVec 32 := Scalar.addi c0_i32_199 v223
  v224.toNat
def k0_dev6 (d0 : Dev nD) : Nat :=
  let c0_i32_219 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_218 : BitVec 32 := 1#32
  let v241 : BitVec 32 := Scalar.muli v4 c1_i32_218
  let v242 : BitVec 32 := Scalar.addi c0_i32_219 v241
  v242.toNat
def k0_off4 (d0 : Dev nD) (c3_i32_224 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v251 : BitVec 32 := Scalar.addi v2 c3_i32_224
  let c4_i32_225 : BitVec 32 := 4#32
  let v252 : BitVec 32 := Scalar.remsi v251 c4_i32_225
  let c1024_i32_235 : BitVec 32 := 1024#32
  let v263 : BitVec 32 := Scalar.muli v252 c1024_i32_235
  let v264 : Index := Scalar.indexCast v263
  let c0_236 : Index := 0#32
  ![v264.toNat, 0]
def k0_off5 (d0 : Dev nD) (c0_i32_226 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v253 : BitVec 32 := Scalar.addi v2 c0_i32_226
  let c1_i32_227 : BitVec 32 := 1#32
  let v254 : BitVec 32 := Scalar.addi v253 c1_i32_227
  let c4_i32_228 : BitVec 32 := 4#32
  let v255 : BitVec 32 := Scalar.remsi v254 c4_i32_228
  let c1024_i32_243 : BitVec 32 := 1024#32
  let v273 : BitVec 32 := Scalar.muli v255 c1024_i32_243
  let c512_i32_244 : BitVec 32 := 512#32
  let v274 : BitVec 32 := Scalar.addi v273 c512_i32_244
  let v275 : Index := Scalar.indexCast v274
  let c0_245 : Index := 0#32
  ![v275.toNat, 0]
def k0_dev7 (d0 : Dev nD) : Nat :=
  let c0_i32_261 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_260 : BitVec 32 := 1#32
  let v285 : BitVec 32 := Scalar.muli v6 c1_i32_260
  let v286 : BitVec 32 := Scalar.addi c0_i32_261 v285
  v286.toNat
def k0_dev8 (d0 : Dev nD) : Nat :=
  let c0_i32_281 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_280 : BitVec 32 := 1#32
  let v303 : BitVec 32 := Scalar.muli v4 c1_i32_280
  let v304 : BitVec 32 := Scalar.addi c0_i32_281 v303
  v304.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S4096x8192, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.Steps.lean ====
/-
Rules for one effect at a time, stated on memrefs OWNED at known contents: a load, a store and a local copy, of a whole
memref through a rectangle or of one squeezed slot of it. Nothing here is about one kernel.
-/
module

public import Idealize.ShloMosaic.Lib.Memref
public import Idealize.ShloMosaic.Lib.MemrefSat
public import Idealize.ShloMosaic.Lib.Transfers
public import Idealize.ShloMosaic.Lib.Tactic

@[expose] public section

noncomputable section

namespace Cert.Steps

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U]

local notation "𝕄" => MT nD τ sig Unit Val ℕ U ℕ

section Lend

variable (c : Thread nD τ) {sp : Space} {s : Shape} {e : EltTy} (M : Memref sig c.2.kind sp s e) (q : PosShare TreeShare)

/-- A slice of an owned memref lent out: given back at the same contents, the memref is owned as before. -/
theorem owns_lend (r : Rect s) (hr : ∀ a, r.stride a = 1) (X : s.Idx → Val e) :
    (owns c M q X : sProp 𝕄) ⊢ iprop(owns c (M.slice r hr) q (fun i => X (r.emb i))
      ∗ (owns c (M.slice r hr) q (fun i => X (r.emb i)) -∗ owns c M q X)) := by
  iintro H
  ihave H2 := (owns_slice_split c M q r hr X) $$ H
  icases H2 with ⟨Hs, %f, %hf, Hrest⟩
  isplitl [Hs]; · iexact Hs
  iintro Hs
  have hX : r.overlay (M.view.read Val f) (fun i => X (r.emb i)) = X := by
    funext j
    by_cases hj : j ∈ r.set
    · obtain ⟨i, rfl⟩ := r.exists_idx_of_mem hj
      exact Rect.overlay_emb r _ _ i
    · rw [Rect.overlay_of_not_mem _ _ _ hj, hf]
  ihave H := (owns_slice_join c M q r hr (fun i => X (r.emb i)) f) $$ [Hs Hrest]
  · isplitl [Hs] <;> iassumption
  rw [hX]
  iexact H

end Lend

section Rules

variable {Λ : Labels} {defs : Defs nD τ sig Val Λ} (𝒱 : Variants) (c : Thread nD τ) (bd : Option 𝒱.V)
variable {α : Type} {Q : α → sProp (MT nD τ sig Unit Val ℕ U ℕ)} {s : Shape} {e : EltTy}

/-- A load of a rectangle of an owned memref. -/
theorem load_owns {cs : CoreSpace} {M : Memref sig c.2.kind cs s e} {r : Rect s} {hl : M.view.LoadsAt r.toLoadRect}
    {k : (r.shape.Idx → Val e) → Prog (TpuEff nD τ sig Val Λ c.2) α} {q : PosShare TreeShare} {X : s.Idx → Val e} :
    (owns c M q X : sProp 𝕄)
      ⊢ iprop((owns c M q X -∗ wp frame (wpE defs 𝒱 c bd) Set.univ (k (fun j => X (r.emb j))) Q)
        -∗ wp frame (wpE defs 𝒱 c bd) Set.univ (.op (.load M r.toLoadRect hl) k) Q) := by
  unfold owns
  iintro ⟨%f, %hf, H⟩ Hk
  iapply (wp_load_rect 𝒱 c bd Set.univ (m := M) (r := r) (S := M.view.set) (M.view.set_slice_subset r)) $$ H
  iintro H
  have h : (M.access r).read Val f = fun j => X (r.emb j) := by rw [← hf]; rfl
  rw [h]
  iapply Hk
  iexists f
  isplitr; · ipureintro; exact hf
  iexact H

/-- A store of a rectangle of an owned memref. -/
theorem store_owns {cs : CoreSpace} {M : Memref sig c.2.kind cs s e} {r : Rect s} {w : r.shape.Idx → Val e}
    {hx : (M.access r).Stores Finset.univ} {hm : Finset.univ = Finset.univ ∨ ∀ a, r.stride a = 1}
    {k : PUnit → Prog (TpuEff nD τ sig Val Λ c.2) α} {X : s.Idx → Val e} :
    (owns c M fullShare X : sProp 𝕄)
      ⊢ iprop((owns c M fullShare (r.overlay X w) -∗ wp frame (wpE defs 𝒱 c bd) Set.univ (k ⟨⟩) Q)
        -∗ wp frame (wpE defs 𝒱 c bd) Set.univ (.op (.store M r w Finset.univ hx hm) k) Q) := by
  unfold owns
  iintro ⟨%f, %hf, H⟩ Hk
  iapply (wp_store 𝒱 c bd Set.univ (m := M) (r := r) (w := w) (Mk := Finset.univ) (hx := hx) (hm := hm) (S := M.view.set) (f := f)
    (M.view.set_slice_subset r)) $$ H
  iintro H
  iapply Hk
  iexists _
  isplitr
  · ipureintro
    show M.view.read Val ((M.access r).write Val f w Finset.univ) = r.overlay X w
    funext j
    by_cases hj : j ∈ r.set
    · obtain ⟨i, rfl⟩ := r.exists_idx_of_mem hj
      exact (congrFun (View.read_write_univ (v := M.access r) f w) i).trans (Rect.overlay_emb r X w i).symm
    · rw [Rect.overlay_of_not_mem _ _ _ hj, ← hf, View.read_apply, View.read_apply]
      congr 1
      refine View.write_of_not_mem _ _ _ ?_
      show M.view.emb j ∉ (M.view.slice r).set
      rw [View.set_slice, Finset.mem_map' M.view.emb]; exact hj
  · iexact H

/-- A load of one squeezed slot of a memref, the slot owned. -/
theorem load_slot {cs : CoreSpace} {M : Memref sig c.2.kind cs s e} {r : Rect s} {hr : ∀ a, r.stride a = 1} {s' : Shape} {hq : r.shape.Squeezes s'}
    {hl : M.view.LoadsAt r.toLoadRect}
    {k : (r.shape.Idx → Val e) → Prog (TpuEff nD τ sig Val Λ c.2) α} {q : PosShare TreeShare} {X : s'.Idx → Val e} :
    (owns c ((M.slice r hr).squeeze s' hq) q X : sProp 𝕄)
      ⊢ iprop((owns c ((M.slice r hr).squeeze s' hq) q X
            -∗ wp frame (wpE defs 𝒱 c bd) Set.univ (k (fun y => X ((Shape.reshapeEquiv hq.numel_eq).symm y))) Q)
        -∗ wp frame (wpE defs 𝒱 c bd) Set.univ (.op (.load M r.toLoadRect hl) k) Q) := by
  unfold owns
  iintro ⟨%f, %hf, H⟩ Hk
  have hset : (M.access r).set ⊆ ((M.slice r hr).squeeze s' hq).view.set := (View.set_reshape _ _).ge
  iapply (wp_load_rect 𝒱 c bd Set.univ (m := M) (r := r) hset) $$ H
  iintro H
  have h : (M.access r).read Val f = fun y => X ((Shape.reshapeEquiv hq.numel_eq).symm y) := by
    rw [← hf]; funext y
    show M.view.read Val f (r.emb y) = M.view.read Val f (r.emb (Shape.reshapeEquiv hq.numel_eq ((Shape.reshapeEquiv hq.numel_eq).symm y)))
    rw [Equiv.apply_symm_apply]
  rw [h]
  iapply Hk
  iexists f
  isplitr; · ipureintro; exact hf
  iexact H

/-- A store of one squeezed slot of a memref, the slot owned. -/
theorem store_slot {cs : CoreSpace} {M : Memref sig c.2.kind cs s e} {r : Rect s} {hr : ∀ a, r.stride a = 1} {s' : Shape} {hq : r.shape.Squeezes s'}
    {w : r.shape.Idx → Val e} {hx : (M.access r).Stores Finset.univ} {hm : Finset.univ = Finset.univ ∨ ∀ a, r.stride a = 1}
    {k : PUnit → Prog (TpuEff nD τ sig Val Λ c.2) α} {X : s'.Idx → Val e} :
    (owns c ((M.slice r hr).squeeze s' hq) fullShare X : sProp 𝕄)
      ⊢ iprop((owns c ((M.slice r hr).squeeze s' hq) fullShare (fun j => w (Shape.reshapeEquiv hq.numel_eq j))
            -∗ wp frame (wpE defs 𝒱 c bd) Set.univ (k ⟨⟩) Q)
        -∗ wp frame (wpE defs 𝒱 c bd) Set.univ (.op (.store M r w Finset.univ hx hm) k) Q) := by
  unfold owns
  iintro ⟨%f, %hf, H⟩ Hk
  have hset : (M.access r).setOn Finset.univ ⊆ ((M.slice r hr).squeeze s' hq).view.set := (View.set_reshape _ _).ge
  iapply (wp_store 𝒱 c bd Set.univ (m := M) (r := r) (w := w) (Mk := Finset.univ) (hx := hx) (hm := hm) (f := f) hset) $$ H
  iintro H
  iapply Hk
  iexists _
  isplitr
  · ipureintro
    show ((M.slice r hr).squeeze s' hq).view.read Val ((M.access r).write Val f w Finset.univ) = _
    funext j
    exact congrFun (View.read_write_univ (v := M.access r) f w) (Shape.reshapeEquiv hq.numel_eq j)
  · iexact H

/-- A local copy between owned memrefs, on a semaphore at zero: in flight it will deliver the destination at the source's
    contents and the source back. -/
theorem copy_owns [CountersIn U] {sp sp' : Space} {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X Y : s.Idx → Val e}
    (N : ℕ) (hN : dst.view.amount sm = N) (hN0 : 0 < N) :
    iprop(owns c src q X ∗ owns c dst fullShare Y ∗ semVal (c, sm) 0)
      ⊢ iprop((Transfers.Flight (countersEmb (U := U)) c sm () N iprop(owns c dst fullShare X ∗ owns c src q X)
              -∗ wp frame (wpE defs 𝒱 c bd) Set.univ (k ⟨⟩) Q)
          -∗ wp frame (wpE defs 𝒱 c bd) Set.univ (.op (.enqueueDma src (.here dst) sm hsrc hdst hsem) k) Q) := by
  iintro ⟨Hs, Hd, Hv⟩ Hk
  unfold owns
  icases Hs with ⟨%fs, %hfs, Hs⟩
  icases Hd with ⟨%fd, %hfd, Hd⟩
  iapply (Transfers.wp_dmaLocal (countersEmb (U := U)) 𝒱 c bd (src := src) (dst := dst) (via := .same) (sm := sm) (fs := fs) (fd := fd) (q := q) ()
    N hN hN0 (Finset.Subset.refl _)) $$ [Hs Hd Hv]
  · isplitl [Hs]; · iexact Hs
    isplitl [Hd]; · iexact Hd
    iexact Hv
  iintro Hf
  iapply Hk
  iapply (Transfers.Flight_mono (countersEmb (U := U)) c ?_) $$ Hf
  iintro ⟨Hd, Hs⟩
  isplitl [Hd]
  · iexists _
    isplitr
    · ipureintro
      show dst.view.read Val (dst.view.write Val fd (src.view.read Val fs) Finset.univ) = X
      rw [← hfs]
      exact View.read_write_univ (v := dst.view) fd (src.view.read Val fs)
    · iexact Hd
  · iexists fs
    isplitr; · ipureintro; exact hfs
    iexact Hs

end Rules

end Cert.Steps
-- ==== Proof.Ring.lean ====
/-
The ring's protocol: who waits on which semaphore, who pays it, how much, and what each landing hands over.

Four devices stand in a ring. Every device converts its 1024 rows of `x` to two blocks of 512 rows; the top block goes
round to the right (`nxt`), the bottom block round to the left (`prv`), each device keeping the four blocks of a direction
in the four slots of that direction's buffer: slot `j` holds the block of the device `j` steps back. Directions are named by
a `Bool`: `true` is the one to the right.

The cells of a device, one round each:
  * the barrier, two units: duty `d` is paid by the neighbour this device sends to in direction `d`, and hands over that
    neighbour's slots 1, 2, 3 of the direction, at any contents;
  * a send semaphore per direction and hop, the credit of one slot: paid by the device's own copy, handing half of the slot
    it read back;
  * a receive semaphore per direction and hop, the same credit: paid by the neighbour's copy of hop `h`, handing slot `h+1`
    at the block of the device `h+1` steps back.
-/
module

public import proofs.«01_k».proof.Proof.Steps
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's copy, the ring's, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance

abbrev 𝒱₀ : Variants := Variants.none

variable (m : (ℓ : Loc nD τ sig) → Buf (Elt F) ℓ)

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The neighbour a device sends to in direction `d`. -/
def step : Bool → Dev nD → Dev nD
  | true => nxt
  | false => prv

theorem step_not_step (d : Bool) (c : Dev nD) : step (!d) (step d c) = c := by revert d c; decide
theorem step_step_not (d : Bool) (c : Dev nD) : step d (step (!d) c) = c := by revert d c; decide

theorem dev1_eq (c : Dev nD) : (⟨k0_dev1 c, k0_dev1_lt c⟩ : Dev nD) = step false c := Fin.ext (k0_dev1_eq c)
theorem dev2_eq (c : Dev nD) : (⟨k0_dev2 c, k0_dev2_lt c⟩ : Dev nD) = step true c := Fin.ext (k0_dev2_eq c)
theorem dev3_eq (c : Dev nD) : (⟨k0_dev3 c, k0_dev3_lt c⟩ : Dev nD) = step true c := Fin.ext (k0_dev3_eq c)
theorem dev4_eq (c : Dev nD) : (⟨k0_dev4 c, k0_dev4_lt c⟩ : Dev nD) = step false c := Fin.ext (k0_dev4_eq c)
theorem dev5_eq (c : Dev nD) : (⟨k0_dev5 c, k0_dev5_lt c⟩ : Dev nD) = step true c := Fin.ext (k0_dev5_eq c)
theorem dev6_eq (c : Dev nD) : (⟨k0_dev6 c, k0_dev6_lt c⟩ : Dev nD) = step false c := Fin.ext (k0_dev6_eq c)
theorem dev7_eq (c : Dev nD) : (⟨k0_dev7 c, k0_dev7_lt c⟩ : Dev nD) = step true c := Fin.ext (k0_dev7_eq c)
theorem dev8_eq (c : Dev nD) : (⟨k0_dev8 c, k0_dev8_lt c⟩ : Dev nD) = step false c := Fin.ext (k0_dev8_eq c)

/-! ## Buffers, slots, semaphores -/

/-- The buffer of the blocks going round in direction `d`. -/
def bufM : Bool → Memref sig .tc .vmem S4x512x4096 .fp8e4m3
  | true => Memref.whole cc0_scratch0
  | false => Memref.whole cc0_scratch1

set_option backward.proofsInPublic true in
abbrev slotRect (k : Fin 4) : Rect S4x512x4096 :=
  Rect.unit (s := S4x512x4096) ![k.val, 0, 0] S1x512x4096.size (by revert k; decide)

abbrev slotM (d : Bool) (k : Fin 4) : Memref sig .tc .vmem S512x4096 .fp8e4m3 :=
  ((bufM d).slice (slotRect k) (fun _ => rfl)).squeeze S512x4096 squeezes_S1x512x4096_S512x4096

set_option backward.proofsInPublic true in
/-- The send and receive semaphores of a direction and hop. -/
def sS (d : Bool) (h : Fin 3) : DmaSem sig := ⟨(if d then 6 else 12) + h.val, by revert d h; decide⟩
set_option backward.proofsInPublic true in
def rS (d : Bool) (h : Fin 3) : DmaSem sig := ⟨(if d then 9 else 15) + h.val, by revert d h; decide⟩

abbrev barS : Sem sig := (SemArray.scalar (sig.barrier 0 rfl) : Sems sig S_).sem

abbrev barCell (c : Dev nD) : GSem nD τ sig := ((c : Thread nD τ), .reg barS)
abbrev sCell (d : Bool) (h : Fin 3) (c : Dev nD) : GSem nD τ sig := ((c : Thread nD τ), .dma (sS d h))
abbrev rCell (d : Bool) (h : Fin 3) (c : Dev nD) : GSem nD τ sig := ((c : Thread nD τ), .dma (rS d h))

set_option backward.proofsInPublic true in
/-- Which of the ring's semaphores a DMA semaphore is: direction, whether it is the receive one, hop. -/
def dec (q : DmaSem sig) : Option (Bool × Bool × Fin 3) :=
  if q.val < 6 then none else some (decide (q.val < 12), decide ((q.val - 6) / 3 % 2 = 1), ⟨(q.val - 6) % 3, Nat.mod_lt _ (by decide)⟩)

theorem dec_s (d : Bool) (h : Fin 3) : dec (sS d h) = some (d, false, h) := by revert d h; decide
theorem dec_r (d : Bool) (h : Fin 3) : dec (rS d h) = some (d, true, h) := by revert d h; decide

/-- The credit of one slot. -/
def N : ℕ := (slotM true 0).view.dmaCredit
theorem N_pos : 0 < N := by unfold N; exact View.dmaCredit_pos _ (by decide)
theorem slot_credit (d : Bool) (k : Fin 4) : (slotM d k).view.dmaCredit = N := by
  cases d <;> fin_cases k <;> rfl

/-! ## Contents -/

set_option backward.proofsInPublic true in
/-- A device's half of its rows: the top one goes round in direction `true`. -/
abbrev xRect (d : Bool) : Rect S1024x4096 :=
  Rect.unit (s := S1024x4096) ![if d then 0 else 512, 0] S512x4096.size (by revert d; decide)

/-- The half of device `c`'s rows that goes round in direction `d`, as the memory held it at launch. -/
def xh (d : Bool) (c : Dev nD) : Vec F S512x4096 .f32 :=
  fun i => (m ((c : Thread nD τ).loc main_arg0) : S1024x4096.Idx → Elt F .f32) ((xRect d).emb i)

/-- and converted. -/
def x8 (d : Bool) (c : Dev nD) : FVec F S512x4096 .fp8e4m3 := k0_pay3 (xh m d c)

/-- What slot `j` of direction `d` holds on device `c` once its block has come: the block of the device `j` steps back. -/
def xs (d : Bool) (j : ℕ) (c : Dev nD) : FVec F S512x4096 .fp8e4m3 := x8 m d ((step (!d))^[j] c)

omit [FloatOps F] in
theorem back_step (d : Bool) (j : ℕ) (c : Dev nD) : (step (!d))^[j + 1] (step d c) = (step (!d))^[j] c := by
  rw [Function.iterate_succ_apply, step_not_step]

theorem xs_step (d : Bool) (j : ℕ) (c : Dev nD) : xs m d (j + 1) (step d c) = xs m d j c := by
  unfold xs; rw [back_step]

/-- A slot of direction `d` on device `c` owned at `X`. -/
abbrev slot (d : Bool) (k : Fin 4) (c : Dev nD) (q : PosShare TreeShare) (X : S512x4096.Idx → Elt F .fp8e4m3) : sProp 𝕄 :=
  owns (c : Thread nD τ) (slotM d k) q X

/-! ## The schedule -/

/-- The slots a direction's blocks land in, at any contents. -/
def land (d : Bool) (c : Dev nD) : sProp 𝕄 :=
  iprop((∃ X, slot (F := F) d 1 c fullShare X) ∗ (∃ X, slot (F := F) d 2 c fullShare X) ∗ ∃ X, slot (F := F) d 3 c fullShare X)

def sendPay (d : Bool) (h : Fin 3) (c : Dev nD) : sProp 𝕄 := slot d h.castSucc c fullShare.left (xs m d h.val c)
def recvPay (d : Bool) (h : Fin 3) (c : Dev nD) : sProp 𝕄 := slot d h.succ c fullShare (xs m d (h.val + 1) c)

def dmaPay (c : Dev nD) : Option (Bool × Bool × Fin 3) → sProp 𝕄
  | some (d, true, h) => recvPay m d h c
  | some (d, false, h) => sendPay m d h c
  | none => iprop(emp)

def pay (c : Dev nD) (b : Bool) : SemLoc sig → sProp 𝕄
  | .reg _ => land b (step b c)
  | .dma q => dmaPay m c (dec q)

def dut : SemLoc sig → Finset Bool
  | .reg s => Finset.univ
  | .dma q => if (dec q).isSome then {false} else ∅

def amt : SemLoc sig → ℕ
  | .reg _ => 1
  | .dma _ => N

theorem amt_pos (s : SemLoc sig) : 0 < amt s := by
  cases s with
  | reg s => rw [amt]; exact Nat.one_pos
  | dma q => rw [amt]; exact N_pos

/-- One round on every cell. -/
def ringRd : Rounds.Schedule (GSem nD τ sig) Bool 𝕄 where
  duties g r := if r = 0 ∧ g.1.2 = .tc then dut g.2 else ∅
  unitless _ := False
  amount g _ _ := amt g.2
  payload g _ b := pay m g.1.1 b g.2
  amount_pos g _ _ _ := amt_pos g.2

instance pay_storable (c : Dev nD) (b : Bool) (s : SemLoc sig) : BI.Storable (upEmb : UEmb _ 𝕄) (pay (F := F) m c b s) := by
  cases s with
  | reg s => unfold pay land; infer_instance
  | dma q =>
    show BI.Storable upEmb (dmaPay m c (dec q))
    rcases dec q with _ | ⟨d, r, h⟩
    · unfold dmaPay; infer_instance
    · cases r
      · show BI.Storable upEmb (sendPay m d h c); unfold sendPay; infer_instance
      · show BI.Storable upEmb (recvPay m d h c); unfold recvPay; infer_instance

instance ringRd_payload_storable (g : GSem nD τ sig) (r : ℕ) (b : Bool) :
    BI.Storable (upEmb : UEmb _ 𝕄) ((ringRd (F := F) m).payload g r b) := pay_storable m g.1.1 b g.2

section Sched
variable (d : Bool) (h : Fin 3) (c : Dev nD)

theorem duties_bar : (ringRd (F := F) m).duties (barCell c) 0 = Finset.univ := by dsimp only [ringRd]; exact if_pos ⟨rfl, rfl⟩
theorem duties_s : (ringRd (F := F) m).duties (sCell d h c) 0 = {false} := by
  dsimp only [ringRd]; rw [if_pos ⟨rfl, rfl⟩]; dsimp only [dut]; rw [dec_s]; rfl
theorem duties_r : (ringRd (F := F) m).duties (rCell d h c) 0 = {false} := by
  dsimp only [ringRd]; rw [if_pos ⟨rfl, rfl⟩]; dsimp only [dut]; rw [dec_r]; rfl
theorem duties_later (g : GSem nD τ sig) : ∀ r, 1 ≤ r → (ringRd (F := F) m).duties g r = ∅ :=
  fun r hr => by dsimp only [ringRd]; rw [if_neg fun h => by omega]

theorem amount_bar (b : Bool) : (ringRd (F := F) m).amount (barCell c) 0 b = 1 := rfl
theorem amount_s (b : Bool) : (ringRd (F := F) m).amount (sCell d h c) 0 b = N := rfl
theorem amount_r (b : Bool) : (ringRd (F := F) m).amount (rCell d h c) 0 b = N := rfl

theorem expect_bar : (ringRd (F := F) m).expect (barCell c) 0 = 2 := by
  unfold Schedule.expect Schedule.amountOf
  rw [duties_bar, Finset.sum_congr rfl fun b _ => amount_bar m c b, Finset.sum_const, Finset.card_univ, Fintype.card_bool, smul_eq_mul]
theorem expect_s : (ringRd (F := F) m).expect (sCell d h c) 0 = N := by
  unfold Schedule.expect Schedule.amountOf; rw [duties_s, Finset.sum_singleton, amount_s]
theorem expect_r : (ringRd (F := F) m).expect (rCell d h c) 0 = N := by
  unfold Schedule.expect Schedule.amountOf; rw [duties_r, Finset.sum_singleton, amount_r]

theorem payload_bar (b : Bool) : (ringRd (F := F) m).payload (barCell c) 0 b = land b (step b c) := rfl
theorem payload_s (b : Bool) : (ringRd (F := F) m).payload (sCell d h c) 0 b = sendPay m d h c := by
  show dmaPay m c (dec (sS d h)) = _; rw [dec_s]; rfl
theorem payload_r (b : Bool) : (ringRd (F := F) m).payload (rCell d h c) 0 b = recvPay m d h c := by
  show dmaPay m c (dec (rS d h)) = _; rw [dec_r]; rfl

theorem rest_bar : bigSep ((ringRd (F := F) m).duties (barCell c) 0 \ ∅) (fun b => (ringRd (F := F) m).payload (barCell c) 0 b)
    = iprop(land false (step false c) ∗ land true (step true c)) := by
  rw [Finset.sdiff_empty, duties_bar, bigSep_univ_eq_bigSepL [false, true] (by decide) (by decide), bigSepL_cons_cons, bigSepL_singleton]
  rfl
theorem rest_s : bigSep ((ringRd (F := F) m).duties (sCell d h c) 0 \ ∅) (fun b => (ringRd (F := F) m).payload (sCell d h c) 0 b) = sendPay m d h c := by
  rw [Finset.sdiff_empty, duties_s, bigSep_singleton, payload_s]
theorem rest_r : bigSep ((ringRd (F := F) m).duties (rCell d h c) 0 \ ∅) (fun b => (ringRd (F := F) m).payload (rCell d h c) 0 b) = recvPay m d h c := by
  rw [Finset.sdiff_empty, duties_r, bigSep_singleton, payload_r]

end Sched

/-! ## What a device owes: the two barrier units first, then the six receive credits, in program order from the top -/

def dueCell (c : Dev nD) : ℕ → GSem nD τ sig
  | 0 => rCell false 2 (step false c)
  | 1 => rCell true 2 (step true c)
  | 2 => rCell false 1 (step false c)
  | 3 => rCell true 1 (step true c)
  | 4 => rCell false 0 (step false c)
  | 5 => rCell true 0 (step true c)
  | 6 => barCell (step true c)
  | _ => barCell (step false c)

def dueAmt : ℕ → ℕ
  | 0 | 1 | 2 | 3 | 4 | 5 => N
  | _ => 1

/-- What device `c` still owes when `n` payments are left. -/
def owe (c : Dev nD) (n : ℕ) : CellTallies nD τ sig Unit := ∑ j ∈ Finset.range n, tallyAt (dueCell c j) () (dueAmt j)

theorem owe_zero (c : Dev nD) : owe c 0 = 0 := Finset.sum_range_zero _
theorem owe_succ (c : Dev nD) (n : ℕ) : owe c (n + 1) = owe c n + tallyAt (dueCell c n) () (dueAmt n) := Finset.sum_range_succ _ _

theorem owe_pos {c : Dev nD} {n : ℕ} {g : GSem nD τ sig} {u : Unit} (h : 0 < owe c n g u) : ∃ j < n, g = dueCell c j := by
  induction n with
  | zero => rw [owe_zero] at h; exact absurd h (Nat.lt_irrefl 0)
  | succ n ih =>
    rw [owe_succ, Pi.add_apply, Finsupp.add_apply, tallyAt_apply] at h
    by_cases hg : g = dueCell c n
    · exact ⟨n, Nat.lt_succ_self n, hg⟩
    · rw [if_neg (fun h' => hg h'.1), add_zero] at h
      obtain ⟨j, hj, e⟩ := ih h
      exact ⟨j, Nat.lt_succ_of_lt hj, e⟩

def L (g : GSem nD τ sig) : Finset Unit := if g.1.2 = .tc then {()} else ∅

def decLv : Option (Bool × Bool × Fin 3) → ℕ
  | some (_, true, h) => 2 + h.val
  | _ => 0
def lvOf : SemLoc sig → ℕ
  | .reg _ => 1
  | .dma q => decLv (dec q)
/-- Barrier cells at 1, the receive cells of hop `h` at `2 + h`, everything else at 0. -/
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem L_due (c : Dev nD) (j : ℕ) : L (dueCell c j) = {()} := by
  unfold dueCell; split <;> exact L_tc _ _

/-- The level of what is owed `j`-th from last. -/
def dueLv : ℕ → ℕ
  | 0 | 1 => 4
  | 2 | 3 => 3
  | 4 | 5 => 2
  | _ => 1
theorem lvOf_bar : lvOf (.reg barS) = 1 := rfl
theorem lvOf_s (d : Bool) (h : Fin 3) : lvOf (.dma (sS d h)) = 0 := by
  show decLv (dec (sS d h)) = 0; rw [dec_s]; rfl
theorem lvOf_r (d : Bool) (h : Fin 3) : lvOf (.dma (rS d h)) = 2 + h.val := by
  show decLv (dec (rS d h)) = _; rw [dec_r]; rfl
theorem lv_r (d : Bool) (h : Fin 3) (c : Dev nD) : lv (rCell d h c) () = 2 + h.val :=
  lvOf_r d h
theorem lv_due (c : Dev nD) (j : ℕ) : lv (dueCell c j) () = dueLv j := by
  rcases j with _ | _ | _ | _ | _ | _ | _ | j
  · exact lv_r false 2 _
  · exact lv_r true 2 _
  · exact lv_r false 1 _
  · exact lv_r true 1 _
  · exact lv_r false 0 _
  · exact lv_r true 0 _
  · rfl
  · rfl

omit [FloatOps F] in
/-- A wait on a semaphore below everything still owed. -/
theorem mayWait (c : Dev nD) (sm : SemLoc sig) (n : ℕ) (hlt : ∀ j < n, lvOf sm < dueLv j) :
    (levAts L lv : sProp 𝕄) ⊢ MayWait (c : Thread nD τ) sm () (owe c n) :=
  MayOwe.of_cut (L := L) (lev := lv) (lvOf sm) (fun p hp => by rw [Finset.mem_singleton.mp hp, L_tc]; exact Finset.mem_singleton_self _)
    (fun g u hg => by obtain ⟨j, -, rfl⟩ := owe_pos hg; rw [L_due]; exact Finset.mem_singleton_self _)
    (fun p hp => by rw [Finset.mem_singleton.mp hp]; exact le_rfl)
    (fun g u hg => by obtain ⟨j, hj, rfl⟩ := owe_pos hg; exact (lv_due c j).symm ▸ hlt j hj)

end Cert.KernelIdeal.Ring
-- ==== Proof.Rules.lean ====
/-
The ring's rules: a signal of a barrier, the barrier's wait, a remote copy of one hop, the waits on its two semaphores, each
as one step at a symbolic device, direction and hop; and the local copies in flight.
-/
module

public import proofs.«01_k».proof.Proof.Ring

@[expose] public section

noncomputable section

namespace Cert.KernelIdeal.Ring

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells of a device, and the records of all of them -/

/-- A cell's name on its device: the barrier, or a direction's send or receive semaphore of a hop. -/
abbrev CI : Type := Option (Bool × Bool × Fin 3)

def csem : CI → SemLoc sig
  | none => .reg barS
  | some (d, false, h) => .dma (sS d h)
  | some (d, true, h) => .dma (rS d h)

abbrev kcell (ck : Dev nD × CI) : GSem nD τ sig := ((ck.1 : Thread nD τ), csem ck.2)

/-- Every cell's invariant, and that every cell has reached round 0. -/
def recs (K : Dev nD × CI → ℕ) : sProp 𝕄 :=
  iprop((bigSep Finset.univ fun ck => cellInv ER (ringRd m) (K ck) (kcell ck)) ∗ bigSep Finset.univ fun ck => reached ER (kcell ck) 0)

instance recs_persistent (K : Dev nD × CI → ℕ) : BI.Persistent (recs m K) := by unfold recs; infer_instance

theorem recs_inv (K : Dev nD × CI → ℕ) (ck : Dev nD × CI) : recs m K ⊢ cellInv ER (ringRd m) (K ck) (kcell ck) := by
  unfold recs
  exact sep_elim_left.trans (bigSep_elim (Φ := fun ck => cellInv ER (ringRd m) (K ck) (kcell ck)) (Finset.mem_univ ck))
theorem recs_reached (K : Dev nD × CI → ℕ) (ck : Dev nD × CI) : recs m K ⊢ (reached ER (kcell ck) 0 : sProp 𝕄) := by
  unfold recs
  exact sep_elim_right.trans (bigSep_elim (Φ := fun ck => (reached ER (kcell ck) 0 : sProp 𝕄)) (Finset.mem_univ ck))

/-- What the device owes with `n` payments left. -/
def Ow (c : Dev nD) (n : ℕ) : sProp 𝕄 := iprop(∃ W, owes (c : Thread nD τ) (owe c n) W)

section Rules

variable (K : Dev nD × CI → ℕ) (c : Dev nD) {α : Type} {Q : α → sProp (MT nD τ sig Unit (Elt F) ℕ UU ℕ)}

/-- The signal that hands this device's landing slots of direction `d` to the neighbour that sends into them. -/
theorem ring_signal (d : Bool) (x : Dev nD) (hx : x = step (!d) c) (n : ℕ) (hn : dueCell c n = barCell (step (!d) c)) (ha : dueAmt n = 1)
    {k : PUnit → Prog (TpuEff nD τ sig (Elt F) Λ₀ .tc) α} :
    iprop(recs m K ∗ Ow c (n + 1) ∗ dutyTok ER (barCell (step (!d) c)) 0 d ∗ land d c)
      ⊢ iprop((Ow c n -∗ wp frame (wpE (defs₀ (F := F)) 𝒱₀ (c : Thread nD τ) none) Set.univ (k ⟨⟩) Q)
          -∗ wp frame (wpE (defs₀ (F := F)) 𝒱₀ (c : Thread nD τ) none) Set.univ
            (.op (.semSignal (x : Thread nD τ) barS (1#32).toInt) k) Q) := by
  subst hx
  unfold Ow
  iintro ⟨#HR, ⟨%W, HO⟩, Ht, Hl⟩ Hk
  iapply (Rounds.wp_signal 𝒱₀ ER (ringRd m) (c : Thread nD τ) none (dst := (step (!d) c : Thread nD τ)) (κ := K (step (!d) c, none))
      (d := d) (k' := 1) (by rw [duties_bar]; exact Finset.mem_univ _) (amount_bar m _ d) () (O₀ := owe c (n + 1)) (owe c n)
      (by rw [owe_succ, hn, ha])) $$ [HO Ht Hl]
  · isplitr; · iapply (recs_inv m K (step (!d) c, none)); iexact HR
    isplitl [HO]; · iexact HO
    isplitl [Ht]; · iexact Ht
    isplitl [Hl]; · rw [payload_bar, step_step_not]; iexact Hl
    iapply (recs_reached m K (step (!d) c, none)); iexact HR
  iintro HO
  iapply Hk
  iexists W
  iexact HO

/-- The wait for both neighbours' signals: their landing slots, and the barrier at zero again. -/
theorem ring_wait_bar (n : ℕ) (hlt : ∀ j < n, 1 < dueLv j)
    {k : PUnit → Prog (TpuEff nD τ sig (Elt F) Λ₀ .tc) α} :
    iprop(recs m K ∗ levAts L lv ∗ Ow c n ∗ cred (tallyAt (barCell c) () 2) ∗ atPos ER (barCell c) 0 ∅ 0)
      ⊢ iprop(((Ow c n ∗ semVal (barCell c) 0 ∗ land false (step false c) ∗ land true (step true c))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.semWait barS (2#32).toInt) k) Q) := by
  unfold Ow
  iintro ⟨#HR, #Hlev, ⟨%W, HO⟩, Hc, Hat⟩ Hk
  iapply (Rounds.wp_wait_rest_token 𝒱₀ ER (ringRd m) (c : Thread nD τ) none (κ := K (c, none))
      (wpE_semWait_eq 𝒱₀ (c : Thread nD τ) none Set.univ) (Set.mem_univ _) () (O := owe c n) (W := W) (R := 0) (m := 0) (T := ∅)
      (by rw [expect_bar]; decide)) $$ [HO Hc Hat]
  · isplitr; · iapply (recs_inv m K (c, none)); iexact HR
    isplitl [Hc]; · iexact Hc
    isplitl [HO]; · iexact HO
    isplitr; · iapply (mayWait c (.reg barS) n hlt); iexact Hlev
    iexact Hat
  iintro ⟨HO, Hat, -, Hpay⟩
  ihave Hp := (Entails.of_eq (rest_bar m c)) $$ Hpay
  imod (Rounds.cell_close ER (ringRd m) (Set.mem_univ (K (c, none))) (fun h => h) (R := 0 + 1) (duties_later m (barCell c))) $$ [Hat] with Hz
  · isplitr; · iapply (recs_inv m K (c, none)); iexact HR
    iexact Hat
  iapply Hk
  isplitl [HO]; · iexists _; iexact HO
  isplitl [Hz]; · iexact Hz
  iexact Hp

/-- The copy of one hop: half of the slot stays to be read, the other half goes with the copy. -/
theorem ring_send (d : Bool) (h : Fin 3) (x : Dev nD) (hx : x = step d c) (n : ℕ) (hn : dueCell c n = rCell d h (step d c)) (ha : dueAmt n = N)
    {hsc : (slotM d h.succ : Memref sig (Dev.tc x : Thread nD τ).2.kind .vmem S512x4096 .fp8e4m3).view.ref.isScScratch = false}
    {hsrc : (slotM d h.castSucc).view.WordExact} {hdst : (slotM d h.succ).view.WordExact}
    {hsem : DmaTarget.Typed .vmem (.dma (rS d h)) (.remote (Dev.tc x : Thread nD τ) (slotM d h.succ) (.dma (sS d h)) hsc)}
    {k : PUnit → Prog (TpuEff nD τ sig (Elt F) Λ₀ .tc) α} :
    iprop(recs m K ∗ Ow c (n + 1) ∗ slot d h.castSucc c fullShare (xs m d h.val c) ∗ (∃ X, slot d h.succ (step d c) fullShare X)
        ∗ dutyTok ER (sCell d h c) 0 false ∗ dutyTok ER (rCell d h (step d c)) 0 false)
      ⊢ iprop(((Ow c n ∗ slot d h.castSucc c fullShare.right (xs m d h.val c) ∗ cred (tallyAt (sCell d h c) () N))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM d h.castSucc) (.remote (Dev.tc x : Thread nD τ) (slotM d h.succ) (.dma (sS d h)) hsc) (.dma (rS d h)) hsrc hdst hsem) k) Q) := by
  subst hx
  unfold Ow
  iintro ⟨#HR, ⟨%W, HO⟩, Hs, ⟨%X, Hd⟩, Hts, Htr⟩ Hk
  ihave Hs2 := (owns_halves (c : Thread nD τ) (slotM d h.castSucc) fullShare (xs m d h.val c)).1 $$ Hs
  icases Hs2 with ⟨Hl, Hr⟩
  have hN : (slotM d h.succ).view.amount (.dma (rS d h) : SemLoc sig) = N := slot_credit d h.succ
  unfold slot owns
  icases Hl with ⟨%fs, %hfs, Hl⟩
  icases Hd with ⟨%fd, %hfd, Hd⟩
  iapply (Rounds.wp_send_pointsTo 𝒱₀ ER (ringRd m) (c : Thread nD τ) none (c' := (step d c : Thread nD τ)) (src := slotM d h.castSucc) (dst := slotM d h.succ) (sS := .dma (sS d h)) (sem := .dma (rS d h)) (κ₁ := K (c, some (d, false, h))) (κ₂ := K (step d c, some (d, true, h)))
    (r₁ := 0) (r₂ := 0) (d₁ := false) (d₂ := false) (fd := fd) (fs := fs) (q := fullShare.left)
    (by rw [duties_s]; exact Finset.mem_singleton_self _) (by rw [duties_r]; exact Finset.mem_singleton_self _)
    () () N hN (amount_s m d h c false) (amount_r m d h (step d c) false) (O₀ := owe c (n + 1)) (owe c n) (by rw [owe_succ, hn, ha]) (W := W)
    (by
      rw [payload_s]; unfold sendPay
      refine (owns_intro (c : Thread nD τ) (slotM d h.castSucc) fullShare.left fs).trans ?_
      rw [hfs])
    (by
      rw [payload_r]; unfold recvPay
      refine (owns_intro (step d c : Thread nD τ) (slotM d h.succ) fullShare _).trans ?_
      rw [View.read_write_univ, hfs, xs_step])) $$ [HO Hl Hd Hts Htr]
  · isplitr; · iapply (recs_inv m K (c, some (d, false, h))); iexact HR
    isplitr; · iapply (recs_inv m K (step d c, some (d, true, h))); iexact HR
    isplitl [Hl]; · iexact Hl
    isplitl [Hd]; · iexact Hd
    isplitl [HO]; · iexact HO
    isplitl [Hts]; · iexact Hts
    isplitr; · iapply (recs_reached m K (c, some (d, false, h))); iexact HR
    isplitl [Htr]; · iexact Htr
    iapply (recs_reached m K (step d c, some (d, true, h))); iexact HR
  iintro ⟨Hc, HO⟩
  iapply Hk
  isplitl [HO]; · iexists W; iexact HO
  isplitl [Hr]; · iexact Hr
  iexact Hc

/-- The wait for the device's own copy to have been read out: the half of the slot back, the semaphore at zero. -/
theorem ring_wait_s (d : Bool) (h : Fin 3) (n : ℕ) (hlt : ∀ j < n, 0 < dueLv j)
    {s' : Shape} {e' : EltTy} {sp' : Space} {srcw : Memref sig .tc sp' s' e'} {sp : Space} {s : Shape} {e : EltTy} {dstw : Memref sig .tc sp s e}
    {hsrc : srcw.view.WordExact} {hdst : dstw.view.WordExact} (hN : dstw.view.dmaCredit = N)
    {k : PUnit → Prog (TpuEff nD τ sig (Elt F) Λ₀ .tc) α} :
    iprop(recs m K ∗ levAts L lv ∗ Ow c n ∗ cred (tallyAt (sCell d h c) () N) ∗ atPos ER (sCell d h c) 0 ∅ 0)
      ⊢ iprop(((Ow c n ∗ semVal (sCell d h c) 0 ∗ slot d h.castSucc c fullShare.left (xs m d h.val c))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 (sS d h) srcw dstw hsrc hdst) k) Q) := by
  unfold Ow
  iintro ⟨#HR, #Hlev, ⟨%W, HO⟩, Hc, Hat⟩ Hk
  iapply (Rounds.wp_wait_rest_token 𝒱₀ ER (ringRd m) (c : Thread nD τ) none (κ := K (c, some (d, false, h)))
      (wpE_waitDma2_eq 𝒱₀ (c : Thread nD τ) none Set.univ) (Set.mem_univ _) () (O := owe c n) (W := W) (R := 0) (m := 0) (T := ∅)
      (by rw [Nat.zero_add, expect_s, hN])) $$ [HO Hc Hat]
  · isplitr; · iapply (recs_inv m K (c, some (d, false, h))); iexact HR
    isplitl [Hc]; · rw [hN]; iexact Hc
    isplitl [HO]; · iexact HO
    isplitr; · iapply (mayWait c (.dma (sS d h)) n (by rw [lvOf_s]; exact hlt)); iexact Hlev
    iexact Hat
  iintro ⟨HO, Hat, -, Hpay⟩
  ihave Hp := (Entails.of_eq (rest_s m d h c)) $$ Hpay
  imod (Rounds.cell_close ER (ringRd m) (Set.mem_univ (K (c, some (d, false, h)))) (fun h => h) (R := 0 + 1) (duties_later m (sCell d h c))) $$ [Hat] with Hz
  · isplitr; · iapply (recs_inv m K (c, some (d, false, h))); iexact HR
    iexact Hat
  iapply Hk
  isplitl [HO]; · iexists _; iexact HO
  isplitl [Hz]; · iexact Hz
  unfold sendPay
  iexact Hp

/-- The wait for a block to have landed: its slot, holding the block, and the semaphore at zero. -/
theorem ring_wait_r (d : Bool) (h : Fin 3) (n : ℕ) (hlt : ∀ j < n, 2 + h.val < dueLv j)
    {s' : Shape} {e' : EltTy} {sp' : Space} {srcw : Memref sig .tc sp' s' e'} {sp : Space} {s : Shape} {e : EltTy} {dstw : Memref sig .tc sp s e}
    {hsrc : srcw.view.WordExact} {hdst : dstw.view.WordExact} (hN : dstw.view.dmaCredit = N)
    {k : PUnit → Prog (TpuEff nD τ sig (Elt F) Λ₀ .tc) α} :
    iprop(recs m K ∗ levAts L lv ∗ Ow c n ∗ cred (tallyAt (rCell d h c) () N) ∗ atPos ER (rCell d h c) 0 ∅ 0)
      ⊢ iprop(((Ow c n ∗ semVal (rCell d h c) 0 ∗ slot d h.succ c fullShare (xs m d (h.val + 1) c))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 (rS d h) srcw dstw hsrc hdst) k) Q) := by
  unfold Ow
  iintro ⟨#HR, #Hlev, ⟨%W, HO⟩, Hc, Hat⟩ Hk
  iapply (Rounds.wp_wait_rest_token 𝒱₀ ER (ringRd m) (c : Thread nD τ) none (κ := K (c, some (d, true, h)))
      (wpE_waitDma2_eq 𝒱₀ (c : Thread nD τ) none Set.univ) (Set.mem_univ _) () (O := owe c n) (W := W) (R := 0) (m := 0) (T := ∅)
      (by rw [Nat.zero_add, expect_r, hN])) $$ [HO Hc Hat]
  · isplitr; · iapply (recs_inv m K (c, some (d, true, h))); iexact HR
    isplitl [Hc]; · rw [hN]; iexact Hc
    isplitl [HO]; · iexact HO
    isplitr; · iapply (mayWait c (.dma (rS d h)) n (by rw [lvOf_r]; exact hlt)); iexact Hlev
    iexact Hat
  iintro ⟨HO, Hat, -, Hpay⟩
  ihave Hp := (Entails.of_eq (rest_r m d h c)) $$ Hpay
  imod (Rounds.cell_close ER (ringRd m) (Set.mem_univ (K (c, some (d, true, h)))) (fun h => h) (R := 0 + 1) (duties_later m (rCell d h c))) $$ [Hat] with Hz
  · isplitr; · iapply (recs_inv m K (c, some (d, true, h))); iexact HR
    iexact Hat
  iapply Hk
  isplitl [HO]; · iexists _; iexact HO
  isplitl [Hz]; · iexact Hz
  unfold recvPay
  iexact Hp

end Rules

/-! ## Local copies in flight -/

section Local

variable (c : Dev nD) {α : Type} {Q : α → sProp (MT nD τ sig Unit (Elt F) ℕ UU ℕ)}

/-- A copy of a slice of `M`, held at share `q` and contents `X`, into `dst`, in flight on `sm`: at its wait `dst` comes
    at the slice's contents, and `M` is whole again. -/
def InFlight {s : Shape} {sp : Space} (M : Memref sig .tc sp s .f32) (q : PosShare TreeShare) (X : s.Idx → Elt F .f32) (r : Rect s) (hr : ∀ a, r.stride a = 1)
    {sp' : Space} (dst : Memref sig .tc sp' r.shape .f32) (sm : DmaSem sig) : sProp 𝕄 :=
  iprop(Transfers.Flight (countersEmb (U := UU)) (c : Thread nD τ) (.dma sm) () dst.view.dmaCredit
      iprop(owns (c : Thread nD τ) dst fullShare (fun i => X (r.emb i)) ∗ owns (c : Thread nD τ) (M.slice r hr) q (fun i => X (r.emb i)))
    ∗ (owns (c : Thread nD τ) (M.slice r hr) q (fun i => X (r.emb i)) -∗ owns (c : Thread nD τ) M q X))

/-- Issuing such a copy. -/
theorem fly_start {s : Shape} {sp : Space} {M : Memref sig .tc sp s .f32} {q : PosShare TreeShare} {X : s.Idx → Elt F .f32} {r : Rect s} {hr : ∀ a, r.stride a = 1}
    {sp' : Space} {dst : Memref sig .tc sp' r.shape .f32} {sm : DmaSem sig} (hpos : 0 < dst.view.dmaCredit)
    {hsrc : (M.slice r hr).view.WordExact} {hdst : dst.view.WordExact} {hsem : DmaTarget.Typed (nD := nD) (τ := τ) (p := .tc) sp (.dma sm) (.here dst)}
    {k : PUnit → Prog (TpuEff nD τ sig (Elt F) Λ₀ .tc) α} :
    iprop(owns (c : Thread nD τ) M q X ∗ (∃ Y, owns (c : Thread nD τ) dst fullShare Y) ∗ semVal ((c : Thread nD τ), .dma sm) 0)
      ⊢ iprop((InFlight c M q X r hr dst sm -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (M.slice r hr) (.here dst) (.dma sm) hsrc hdst hsem) k) Q) := by
  iintro ⟨HM, ⟨%Y, Hd⟩, Hv⟩ Hk
  ihave H2 := (owns_lend (c : Thread nD τ) M q r hr X) $$ HM
  icases H2 with ⟨Hs, Hback⟩
  iapply (copy_owns 𝒱₀ (c : Thread nD τ) none (src := M.slice r hr) (dst := dst) (sm := .dma sm) dst.view.dmaCredit rfl hpos) $$ [Hs Hd Hv]
  · isplitl [Hs]; · iexact Hs
    isplitl [Hd]; · iexact Hd
    iexact Hv
  iintro Hf
  iapply Hk
  unfold InFlight
  isplitl [Hf]; · iexact Hf
  iexact Hback

/-- Waiting for it. -/
theorem fly_wait {s : Shape} {sp : Space} {M : Memref sig .tc sp s .f32} {q : PosShare TreeShare} {X : s.Idx → Elt F .f32} {r : Rect s} {hr : ∀ a, r.stride a = 1}
    {sp' : Space} {dst : Memref sig .tc sp' r.shape .f32} {sm : DmaSem sig} (hsm : lvOf (.dma sm) = 0) (n : ℕ) (hlt : ∀ j < n, 0 < dueLv j)
    {s₂ : Shape} {e₂ : EltTy} {sp₂ : Space} {srcw : Memref sig .tc sp₂ s₂ e₂} {hsrc : srcw.view.WordExact} {hdst : dst.view.WordExact}
    {k : PUnit → Prog (TpuEff nD τ sig (Elt F) Λ₀ .tc) α} :
    iprop(levAts L lv ∗ Ow c n ∗ InFlight c M q X r hr dst sm)
      ⊢ iprop(((Ow c n ∗ owns (c : Thread nD τ) M q X ∗ owns (c : Thread nD τ) dst fullShare (fun i => X (r.emb i)) ∗ semVal ((c : Thread nD τ), .dma sm) 0)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 sm srcw dst hsrc hdst) k) Q) := by
  unfold Ow InFlight
  iintro ⟨#Hlev, ⟨%W, HO⟩, Hf, Hback⟩ Hk
  iapply (Transfers.wp_waitLocalO (countersEmb (U := UU)) 𝒱₀ (c : Thread nD τ) none () rfl) $$ [Hf HO]
  · isplitl [Hf]; · iexact Hf
    isplitl [HO]; · iexact HO
    iapply (mayWait c (.dma sm) n (by rw [hsm]; exact hlt)); iexact Hlev
  iintro ⟨⟨Hd, Hs⟩, Hv, HO⟩
  iapply Hk
  isplitl [HO]; · iexists _; iexact HO
  isplitl [Hs Hback]; · iapply Hback; iexact Hs
  isplitl [Hd]; · iexact Hd
  iexact Hv

end Local

end Cert.KernelIdeal.Ring
-- ==== Proof.Contents.lean ====
/-
What the buffers hold, as plain functions of the memory at launch: the converted columns of the weights a device works on,
the block products, the result, and how far each of them has been filled in.
-/
module

public import proofs.«01_k».proof.Proof.Rules
public import Idealize.ShloMosaic.Lib.Pipeline.Value
public import Idealize.ShloMosaic.Lib.VecWindow

@[expose] public section

noncomputable section

namespace Cert.KernelIdeal.Ring

open Cert.KernelIdeal Cert.KernelIdeal.Gen Cert.Steps

open Idealize.ShloMosaic
open Idealize.ShloMosaic.TcCoe
open Idealize.SL Idealize.SL.Sem

variable {F : FTy → Type} [FloatOps F]

variable (m : (ℓ : Loc nD τ sig) → Buf (Elt F) ℓ)

/-- A store of a rectangle read at one index: the payload's value inside, what was there outside. -/
theorem overlay_at {α : Type} {s : Shape} (r : Rect s) (X : s.Idx → α) (w : r.shape.Idx → α) (G : s.Idx → α) (i : s.Idx)
    (hin : ∀ j, w j = G (r.emb j)) (hout : i ∉ r.set → X i = G i) : r.overlay X w i = G i := by
  by_cases hm : i ∈ r.set
  · obtain ⟨j, rfl⟩ := r.exists_idx_of_mem hm
    exact (Rect.overlay_emb r X w j).trans (hin j)
  · rw [Rect.overlay_of_not_mem _ _ _ hm]; exact hout hm

/-! ## The weights -/

/-- The weights of device `c` at launch. -/
def wbuf (c : Dev nD) : S4096x8192.Idx → Elt F .f32 := m ((c : Thread nD τ).loc main_arg1)

/-- The 256 columns of the weights that chunk `r` of device `c` copies. -/
abbrev wRect (c : Dev nD) (r : Fin 8) : Rect S4096x8192 :=
  Rect.unit (s := S4096x8192) (k0_off1 c (BitVec.ofNat 32 (256 * r.val))) S4096x256.size (k0_off1_inb c r)

set_option backward.proofsInPublic true in
/-- All of the columns device `c` works on. -/
abbrev wCols (c : Dev nD) : Rect S4096x8192 :=
  Rect.unit (s := S4096x8192) ![0, 2048 * c.val] S4096x2048.size (by revert c; decide)

/-- They converted. -/
def w8 (c : Dev nD) : FVec F S4096x2048 .fp8e5m2 := truncf .fp8e5m2 (fun i => wbuf m c ((wCols c).emb i)) bitsLt_fp8e5m2_f32

/-- A chunk's columns, as they come. -/
def wch (c : Dev nD) (r : Fin 8) : FVec F S4096x256 .f32 := fun i => wbuf m c ((wRect c r).emb i)

theorem wch_eq (c : Dev nD) (r : Fin 8) {off : Fin 2 → ℕ} (h : off = ![0, 256 * r.val]) (inb) (j : S4096x256.Idx) :
    truncf .fp8e5m2 (wch m c r) bitsLt_fp8e5m2_f32 j = w8 m c ((Rect.unit (s := S4096x2048) off S4096x256.size inb).emb j) := by
  subst h
  show FloatOps.truncf _ _ (wbuf m c ((wRect c r).emb j)) = FloatOps.truncf _ _ (wbuf m c ((wCols c).emb _))
  congr 2
  funext a
  refine Fin.ext ?_
  rw [Rect.emb_apply, Rect.emb_apply, Rect.emb_apply]
  simp only [Rect.off_unit, Rect.stride_unit, Nat.one_mul, k0_off1_eq c r]
  match a with
  | ⟨0, _⟩ => show 0 + (j 0).val = 0 + (0 + (j 0).val); omega
  | ⟨1, _⟩ => show 2048 * c.val + 256 * r.val + (j 1).val = 2048 * c.val + (256 * r.val + (j 1).val); omega

/-- The converted weights are in place up to chunk `n`. -/
def Cols (c : Dev nD) (n : ℕ) (X : S4096x2048.Idx → Elt F .fp8e5m2) : Prop := ∀ i, (i 1).val < 256 * n → X i = w8 m c i

theorem cols_zero (c : Dev nD) (X) : Cols m c 0 X := fun i h => absurd h (by omega)

theorem mem_chunk (r : ℕ) {off : Fin 2 → ℕ} (h : off = ![0, 256 * r]) (inb) (i : S4096x2048.Idx) (h1 : 256 * r ≤ (i 1).val)
    (h2 : (i 1).val < 256 * r + 256) : i ∈ (Rect.unit (s := S4096x2048) off S4096x256.size inb).set := by
  subst h
  have h0 : (i 0).val < 4096 := (i 0).isLt
  refine Rect.mem_set_unit.mpr (Fin.forall_fin_two.mpr ⟨⟨Nat.zero_le _, ?_⟩, h1, h2⟩)
  show (i 0).val < 0 + 4096
  omega

theorem cols_store_at (c : Dev nD) (n : ℕ) {X} (hX : Cols m c n X) (R : Rect S4096x2048) (w : R.shape.Idx → Elt F .fp8e5m2)
    (hin : ∀ j, w j = w8 m c (R.emb j)) (hout : ∀ i, i ∉ R.set → (i 1).val < 256 * (n + 1) → (i 1).val < 256 * n) :
    Cols m c (n + 1) (R.overlay X w) :=
  fun i hi => overlay_at R X w (w8 m c) i hin fun h => hX i (hout i h hi)

theorem cols_store (c : Dev nD) (r : Fin 8) {X} (hX : Cols m c r.val X) {off : Fin 2 → ℕ} (h : off = ![0, 256 * r.val]) {inb}
    {w : S4096x256.Idx → Elt F .fp8e5m2} (hw : w = truncf .fp8e5m2 (wch m c r) bitsLt_fp8e5m2_f32) :
    Cols m c (r.val + 1) ((Rect.unit (s := S4096x2048) off S4096x256.size inb).overlay X w) :=
  cols_store_at m c r hX (Rect.unit (s := S4096x2048) off S4096x256.size inb) w (fun j => (congrFun hw j).trans (wch_eq m c r h inb j))
    fun i hm hi => by
      by_contra hlt
      exact hm (mem_chunk r.val h inb i (by omega) (by omega))

theorem cols_all (c : Dev nD) {X} (hX : Cols m c 8 X) : X = w8 m c :=
  funext fun i => hX i (show (i 1).val < 2048 from (i 1).isLt)

/-! ## The payloads -/

/-- A slot read through its squeezed view, and cast back. -/
theorem slot_cast {α : Type} {s t : Shape} (h : s.ShapeCasts t) (hn) (X : t.Idx → α) :
    shapeCast t (fun y : s.Idx => X ((Shape.reshapeEquiv hn).symm y)) h = X := by
  funext j
  show X ((Shape.reshapeEquiv hn).symm (Shape.reshapeEquiv _ j)) = X j
  rw [Equiv.symm_apply_apply]

theorem slot_uncast {α : Type} {s t : Shape} (h : s.ShapeCasts t) (hn) (X : s.Idx → α) :
    (fun j => shapeCast t X h (Shape.reshapeEquiv hn j)) = X := by
  funext j
  show X (Shape.reshapeEquiv _ (Shape.reshapeEquiv hn j)) = X j
  rw [Shape.reshapeEquiv_reshapeEquiv, Shape.reshapeEquiv_self]

theorem pay2_slot (X : Vec F S512x4096 .f32) (hn : S512x4096.numel = S1x512x4096.numel) : (fun j => k0_pay2 X (Shape.reshapeEquiv hn j)) = k0_pay3 X := by
  unfold k0_pay2; exact slot_uncast _ hn _
theorem pay4_slot (X : FVec F S512x4096 .fp8e4m3) (hn : S512x4096.numel = S1x512x4096.numel) : (fun j => k0_pay4 X (Shape.reshapeEquiv hn j)) = X := by
  unfold k0_pay4; exact slot_uncast _ hn _

section Chunk
variable (V : Vec F S4096x256 .f32) (hn : S4096x256.numel = S1x4096x256.numel)
theorem pay7_slot : k0_pay7 (fun y => V ((Shape.reshapeEquiv hn).symm y)) = truncf .fp8e5m2 V bitsLt_fp8e5m2_f32 := by
  unfold k0_pay7; rw [slot_cast]
theorem pay8_self (X : FVec F S4096x256 .fp8e5m2) : k0_pay8 X = X := shapeCast_self _ _
theorem pay5_slot : k0_pay5 (fun y => V ((Shape.reshapeEquiv hn).symm y)) = truncf .fp8e5m2 V bitsLt_fp8e5m2_f32 :=
  (shapeCast_self _ _).trans (pay7_slot V hn)
theorem pay6_slot : k0_pay6 (fun y => V ((Shape.reshapeEquiv hn).symm y)) = truncf .fp8e5m2 V bitsLt_fp8e5m2_f32 := pay5_slot V hn
theorem pay9_slot : k0_pay9 (fun y => V ((Shape.reshapeEquiv hn).symm y)) = truncf .fp8e5m2 V bitsLt_fp8e5m2_f32 := pay5_slot V hn
theorem pay10_slot : k0_pay10 (fun y => V ((Shape.reshapeEquiv hn).symm y)) = truncf .fp8e5m2 V bitsLt_fp8e5m2_f32 := pay5_slot V hn
theorem pay11_slot : k0_pay11 (fun y => V ((Shape.reshapeEquiv hn).symm y)) = truncf .fp8e5m2 V bitsLt_fp8e5m2_f32 := pay5_slot V hn
theorem pay12_slot : k0_pay12 (fun y => V ((Shape.reshapeEquiv hn).symm y)) = truncf .fp8e5m2 V bitsLt_fp8e5m2_f32 := pay5_slot V hn
theorem pay13_slot : k0_pay13 (fun y => V ((Shape.reshapeEquiv hn).symm y)) = truncf .fp8e5m2 V bitsLt_fp8e5m2_f32 := pay5_slot V hn
end Chunk

/-- The product of a block with the weights. -/
def mm (X : FVec F S512x4096 .fp8e4m3) (W : FVec F S4096x2048 .fp8e5m2) : FVec F S512x2048 .f32 :=
  matmul dot_S512x4096_S4096x2048_S512x2048_1_0_0_1_n_n none X W (constant S512x2048 .f32 0x00000000#32)

/-- A block of the product, scaled. -/
def blk (s : F .f32) (X : FVec F S512x4096 .fp8e4m3) (W : FVec F S4096x2048 .fp8e5m2) : FVec F S512x2048 .bf16 :=
  truncf .bf16 (mulf (mm X W) (broadcast S512x2048 s)) bitsLt_bf16_f32

section Block
variable (s : F .f32) (X : FVec F S512x4096 .fp8e4m3) (W : FVec F S4096x2048 .fp8e5m2) (hn : S512x4096.numel = S1x512x4096.numel)
theorem pay14_slot : k0_pay14 s (fun y => X ((Shape.reshapeEquiv hn).symm y)) W = blk s X W := by
  unfold k0_pay14; rw [slot_cast]; rfl
theorem pay15_slot : k0_pay15 s (fun y => X ((Shape.reshapeEquiv hn).symm y)) W = blk s X W := pay14_slot s X W hn
theorem pay16_slot : k0_pay16 s (fun y => X ((Shape.reshapeEquiv hn).symm y)) W = blk s X W := pay14_slot s X W hn
theorem pay17_slot : k0_pay17 s (fun y => X ((Shape.reshapeEquiv hn).symm y)) W = blk s X W := pay14_slot s X W hn
theorem pay18_slot : k0_pay18 s (fun y => X ((Shape.reshapeEquiv hn).symm y)) W = blk s X W := pay14_slot s X W hn
theorem pay19_slot : k0_pay19 s (fun y => X ((Shape.reshapeEquiv hn).symm y)) W = blk s X W := pay14_slot s X W hn
theorem pay20_slot : k0_pay20 (fun y => X ((Shape.reshapeEquiv hn).symm y)) W = mm X W := by
  unfold k0_pay20; rw [slot_cast]; rfl
theorem pay22_mm : k0_pay22 (mm X W) (k0_pay21 s) = blk s X W := rfl
theorem pay23_slot : k0_pay23 s (fun y => X ((Shape.reshapeEquiv hn).symm y)) W = blk s X W := pay14_slot s X W hn
end Block

/-! ## The result -/

/-- Which half of which device's rows a row of the result comes from. -/
def rowDev (i : S4096x2048.Idx) : Dev nD := ⟨(i 0).val / 1024, Nat.div_lt_of_lt_mul (show (i 0).val < 1024 * 4 from (i 0).isLt)⟩
def rowHalf (i : S4096x2048.Idx) : Bool := decide ((i 0).val % 1024 < 512)
def rowIn (i : S4096x2048.Idx) : S512x2048.Idx := fun a => match a with
  | ⟨0, _⟩ => ⟨(i 0).val % 512, Nat.mod_lt _ (by decide)⟩
  | ⟨1, _⟩ => ⟨(i 1).val, (i 1).isLt⟩

/-- The scale of device `c`. -/
def i0 : S1.Idx := fun a => ⟨0, by revert a; decide⟩
def scl (c : Dev nD) : F .f32 :=
  k0_pay1 ((m ((c : Thread nD τ).loc main_arg2) : S1.Idx → Elt F .f32) i0) ((m ((c : Thread nD τ).loc main_arg3) : S1.Idx → Elt F .f32) i0)

theorem s1_all (i : S1.Idx) : i = i0 := funext fun a => Fin.ext (by
  have h : S1.size a = 1 := by revert a; decide
  have := (i a).isLt; show (i a).val = 0; omega)
theorem scl_at (c : Dev nD) (i j : S1.Idx) :
    k0_pay1 (m ((c : Thread nD τ).loc main_arg2) i) (m ((c : Thread nD τ).loc main_arg3) j) = scl m c := by
  rw [s1_all i, s1_all j]; rfl

/-- The block of device `c`'s result that half `d` of device `o`'s rows gives. -/
def rblk (c : Dev nD) (d : Bool) (o : Dev nD) : FVec F S512x2048 .bf16 := blk (scl m c) (x8 m d o) (w8 m c)

/-- The result on device `c`. -/
def outT (c : Dev nD) : S4096x2048.Idx → Elt F .bf16 := fun i => rblk m c (rowHalf i) (rowDev i) (rowIn i)

/-- The first row of a block. -/
def rowOff (d : Bool) (o : Dev nD) : ℕ := 1024 * o.val + if d then 0 else 512

theorem row_block (d : Bool) (o : Dev nD) {off : Fin 2 → ℕ} (h : off = ![rowOff d o, 0]) (inb) (j : S512x2048.Idx) :
    rowHalf ((Rect.unit (s := S4096x2048) off S512x2048.size inb).emb j) = d
      ∧ rowDev ((Rect.unit (s := S4096x2048) off S512x2048.size inb).emb j) = o
      ∧ rowIn ((Rect.unit (s := S4096x2048) off S512x2048.size inb).emb j) = j := by
  subst h
  have h0 : (((Rect.unit (s := S4096x2048) ![rowOff d o, 0] S512x2048.size inb).emb j) 0).val = rowOff d o + (j 0).val := by
    rw [Rect.emb_apply, Rect.stride_unit, Nat.one_mul]; rfl
  have h1 : (((Rect.unit (s := S4096x2048) ![rowOff d o, 0] S512x2048.size inb).emb j) 1).val = (j 1).val := by
    rw [Rect.emb_apply, Rect.stride_unit, Nat.one_mul]; exact Nat.zero_add _
  have hj : (j 0).val < 512 := (j 0).isLt
  have hr : rowOff d o = 1024 * o.val + if d then 0 else 512 := rfl
  refine ⟨?_, ?_, ?_⟩
  · unfold rowHalf
    rw [h0, hr]
    cases d
    · simp only [Bool.false_eq_true, if_false, decide_eq_false_iff_not]; omega
    · simp only [if_true, decide_eq_true_eq]; omega
  · refine Fin.ext ?_
    show (((Rect.unit (s := S4096x2048) ![rowOff d o, 0] S512x2048.size inb).emb j) 0).val / 1024 = o.val
    rw [h0, hr]; cases d <;> simp only [Bool.false_eq_true, if_false, if_true] <;> omega
  · funext a
    refine Fin.ext ?_
    match a with
    | ⟨0, _⟩ =>
      show (((Rect.unit (s := S4096x2048) ![rowOff d o, 0] S512x2048.size inb).emb j) 0).val % 512 = (j 0).val
      rw [h0, hr]; cases d <;> simp only [Bool.false_eq_true, if_false, if_true] <;> omega
    | ⟨1, _⟩ => exact h1

/-- The result is in place at the blocks of `S`. -/
def Rows (c : Dev nD) (S : List (Bool × Dev nD)) (X : S4096x2048.Idx → Elt F .bf16) : Prop :=
  ∀ i, (rowHalf i, rowDev i) ∈ S → X i = outT m c i

theorem rows_nil (c : Dev nD) (X) : Rows m c [] X := fun i h => absurd h List.not_mem_nil

theorem mem_rows (d : Bool) (o : Dev nD) {off : Fin 2 → ℕ} (h : off = ![rowOff d o, 0]) (inb) (i : S4096x2048.Idx) (e1 : d = rowHalf i)
    (e2 : o = rowDev i) : i ∈ (Rect.unit (s := S4096x2048) off S512x2048.size inb).set := by
  subst h
  have e2' : (i 0).val / 1024 = o.val := congrArg Fin.val e2.symm
  have hr : rowOff d o = 1024 * o.val + if d then 0 else 512 := rfl
  have h1 : (i 1).val < 0 + 2048 := by
    have h1 : (i 1).val < 2048 := (i 1).isLt
    omega
  have h0 : rowOff d o ≤ (i 0).val ∧ (i 0).val < rowOff d o + 512 := by
    rw [hr]
    unfold rowHalf at e1
    cases d
    · have e1 := of_decide_eq_false e1.symm
      simp only [Bool.false_eq_true, if_false]; omega
    · have e1 := of_decide_eq_true e1.symm
      simp only [if_true]; omega
  exact Rect.mem_set_unit.mpr (Fin.forall_fin_two.mpr ⟨h0, Nat.zero_le _, h1⟩)

theorem rows_store_at (c : Dev nD) (p : Bool × Dev nD) {S X} (hX : Rows m c S X) (R : Rect S4096x2048) (w : R.shape.Idx → Elt F .bf16)
    (hin : ∀ j, w j = outT m c (R.emb j)) (hout : ∀ i, i ∉ R.set → (rowHalf i, rowDev i) ≠ p) :
    Rows m c (p :: S) (R.overlay X w) :=
  fun i hi => overlay_at R X w (outT m c) i hin fun h => hX i ((List.mem_cons.mp hi).resolve_left (hout i h))

theorem outT_block (c : Dev nD) (d : Bool) (o : Dev nD) {off : Fin 2 → ℕ} (h : off = ![rowOff d o, 0]) (inb) (j : S512x2048.Idx) :
    rblk m c d o j = outT m c ((Rect.unit (s := S4096x2048) off S512x2048.size inb).emb j) := by
  obtain ⟨h1, h2, h3⟩ := row_block d o h inb j
  unfold outT
  rw [h1, h2, h3]

theorem rows_store (c : Dev nD) (d : Bool) (o : Dev nD) {S X} (hX : Rows m c S X) {off : Fin 2 → ℕ} (h : off = ![rowOff d o, 0]) {inb}
    {w : S512x2048.Idx → Elt F .bf16} (hw : w = rblk m c d o) :
    Rows m c ((d, o) :: S) ((Rect.unit (s := S4096x2048) off S512x2048.size inb).overlay X w) :=
  rows_store_at m c (d, o) hX (Rect.unit (s := S4096x2048) off S512x2048.size inb) w (fun j => (congrFun hw j).trans (outT_block m c d o h inb j))
    fun i hm e => hm (mem_rows d o h inb i (Prod.mk.inj e).1.symm (Prod.mk.inj e).2.symm)

theorem rows_all (c : Dev nD) {S X} (hX : Rows m c S X) (hS : ∀ d o, (d, o) ∈ S) : X = outT m c :=
  funext fun i => hX i (hS _ _)

end Cert.KernelIdeal.Ring
-- ==== Proof.State.lean ====
/-
What a device holds between the steps of the body, by name, and the reads and writes of its buffers at those names.
-/
module

public import proofs.«01_k».proof.Proof.Contents

@[expose] public section

noncomputable section

namespace Cert.KernelIdeal.Ring

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The local copies -/

set_option backward.proofsInPublic true in
abbrev wsRect (s : Fin 2) : Rect S2x4096x256 :=
  Rect.unit (s := S2x4096x256) ![s.val, 0, 0] S1x4096x256.size (by revert s; decide)
/-- A staging slot of the weights. -/
abbrev wsM (s : Fin 2) : Memref sig .tc .vmem S4096x256 .f32 :=
  ((Memref.whole cc0_scratch3).slice (wsRect s) (fun _ => rfl)).squeeze S4096x256 squeezes_S1x4096x256_S4096x256
set_option backward.proofsInPublic true in
def wS (s : Fin 2) : DmaSem sig := ⟨3 + s.val, by revert s; decide⟩
set_option backward.proofsInPublic true in
def xS : DmaSem sig := ⟨5, by decide⟩

theorem lvOf_w (s : Fin 2) : lvOf (.dma (wS s)) = 0 := by revert s; decide
theorem lvOf_x : lvOf (.dma xS) = 0 := by decide

/-- The share of the weights that a staging slot's copies read. -/
def wsh : Fin 2 → PosShare TreeShare
  | 0 => fullShare.left
  | 1 => fullShare.right

def xbuf (c : Dev nD) : S1024x4096.Idx → Elt F .f32 := m ((c : Thread nD τ).loc main_arg0)

/-- The device's rows, all there. -/
abbrev XA (c : Dev nD) : sProp 𝕄 := owns (c : Thread nD τ) (Memref.whole main_arg0) fullShare (xbuf m c)
/-- A slot's share of the weights. -/
abbrev WA (c : Dev nD) (s : Fin 2) : sProp 𝕄 := owns (c : Thread nD τ) (Memref.whole main_arg1) (wsh s) (wbuf m c)
/-- The rows' staging buffer. -/
abbrev XS (c : Dev nD) (X : S512x4096.Idx → Elt F .f32) : sProp 𝕄 := owns (c : Thread nD τ) (Memref.whole cc0_scratch4) fullShare X
/-- A staging slot of the weights. -/
abbrev WS (c : Dev nD) (s : Fin 2) (X : S4096x256.Idx → Elt F .f32) : sProp 𝕄 := owns (c : Thread nD τ) (wsM s) fullShare X
abbrev zx (c : Dev nD) : sProp 𝕄 := semVal ((c : Thread nD τ), .dma xS) 0
abbrev zw (c : Dev nD) (s : Fin 2) : sProp 𝕄 := semVal ((c : Thread nD τ), .dma (wS s)) 0

/-- Half `d` of the rows on its way into the staging buffer. -/
def FX (c : Dev nD) (d : Bool) : sProp 𝕄 :=
  InFlight c (Memref.whole main_arg0) fullShare (xbuf m c) (xRect d) (fun _ => rfl) (Memref.whole cc0_scratch4) xS
/-- Chunk `r` of the weights on its way into staging slot `s`. -/
def FW (c : Dev nD) (s : Fin 2) (r : Fin 8) : sProp 𝕄 :=
  InFlight c (Memref.whole main_arg1) (wsh s) (wbuf m c) (wRect c r) (fun _ => rfl) (wsM s) (wS s)

/-- The converted weights in place up to chunk `n`. -/
def W8 (c : Dev nD) (n : ℕ) : sProp 𝕄 :=
  iprop(∃ X, ⌜Cols m c n X⌝ ∗ owns (c : Thread nD τ) (Memref.whole cc0_scratch2) fullShare X)
/-- The result in place at the blocks of `S`. -/
def OutR (c : Dev nD) (S : List (Bool × Dev nD)) : sProp 𝕄 :=
  iprop(∃ X, ⌜Rows m c S X⌝ ∗ owns (c : Thread nD τ) (Memref.whole cc0_stg2_0) fullShare X)

/-! ## The ring's -/

/-- What the copy of a hop needs besides its slots. -/
abbrev SendTok (c : Dev nD) (d : Bool) (h : Fin 3) : sProp 𝕄 :=
  iprop(dutyTok ER (sCell d h c) 0 false ∗ dutyTok ER (rCell d h (step d c)) 0 false)
/-- What the wait for a hop's landing needs. -/
abbrev RecvTok (c : Dev nD) (d : Bool) (h : Fin 3) : sProp 𝕄 :=
  iprop(cred (tallyAt (rCell d h c) () N) ∗ atPos ER (rCell d h c) 0 ∅ 0)
abbrev AtS (c : Dev nD) (d : Bool) (h : Fin 3) : sProp 𝕄 := atPos ER (sCell d h c) 0 ∅ 0
/-- A sent block still to be waited for. -/
abbrev CrS (c : Dev nD) (d : Bool) (h : Fin 3) : sProp 𝕄 := cred (tallyAt (sCell d h c) () N)
abbrev zs (c : Dev nD) (d : Bool) (h : Fin 3) : sProp 𝕄 := semVal (sCell d h c) 0
abbrev zr (c : Dev nD) (d : Bool) (h : Fin 3) : sProp 𝕄 := semVal (rCell d h c) 0
/-- A slot at any contents. -/
abbrev anySlot (d : Bool) (k : Fin 4) (c : Dev nD) : sProp 𝕄 := iprop(∃ X, slot (F := F) d k c fullShare X)
/-- Both halves of a slot, a copy of one of them having been in flight. -/
abbrev lft (c : Dev nD) (d : Bool) (h : Fin 3) : sProp 𝕄 := slot d h.castSucc c fullShare.left (xs m d h.val c)
abbrev rgt (c : Dev nD) (d : Bool) (h : Fin 3) : sProp 𝕄 := slot d h.castSucc c fullShare.right (xs m d h.val c)

theorem lft_rgt (c : Dev nD) (d : Bool) (h : Fin 3) : iprop(lft m c d h ∗ rgt m c d h) ⊢ anySlot (F := F) d h.castSucc c := by
  iintro ⟨Hl, Hr⟩
  iexists _
  iapply (owns_halves (c : Thread nD τ) (slotM d h.castSucc) fullShare (xs m d h.val c)).2
  isplitl [Hl]; · iexact Hl
  iexact Hr

/-! ## Their steps -/

section Steps

variable (c : Dev nD) {α : Type} {Q : α → sProp (MT nD τ sig Unit (Elt F) ℕ UU ℕ)}

theorem credit_x : 0 < (Memref.whole cc0_scratch4 : Memref sig .tc .vmem S512x4096 .f32).view.dmaCredit := View.dmaCredit_pos _ (by decide)
theorem credit_w (s : Fin 2) : 0 < (wsM s).view.dmaCredit := View.dmaCredit_pos _ (by decide)

/-- The start of the copy of a half of the rows. -/
theorem x_start (d : Bool) {hsrc : ((Memref.whole main_arg0).slice (xRect d) (fun _ => rfl)).view.WordExact}
    {hdst : (Memref.whole cc0_scratch4 : Memref sig .tc .vmem S512x4096 .f32).view.WordExact}
    {hsem : DmaTarget.Typed (nD := nD) (τ := τ) (p := .tc) .hbm (.dma xS) (.here (Memref.whole cc0_scratch4 : Memref sig .tc .vmem S512x4096 .f32))}
    {k : PUnit → Prog (TpuEff nD τ sig (Elt F) Λ₀ .tc) α} :
    iprop(XA m c ∗ (∃ X, XS (F := F) c X) ∗ zx (F := F) c)
      ⊢ iprop((FX m c d -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma ((Memref.whole main_arg0).slice (xRect d) (fun _ => rfl)) (.here (Memref.whole cc0_scratch4)) (.dma xS) hsrc hdst hsem) k) Q) := by
  unfold FX
  exact fly_start c (M := Memref.whole main_arg0) (r := xRect d) (hr := fun _ => rfl) (dst := Memref.whole cc0_scratch4) (sm := xS) credit_x

/-- Its wait. -/
theorem x_wait (d : Bool) (n : ℕ) (hlt : ∀ j < n, 0 < dueLv j)
    {s₂ : Shape} {e₂ : EltTy} {sp₂ : Space} {srcw : Memref sig .tc sp₂ s₂ e₂} {hsrc : srcw.view.WordExact}
    {hdst : (Memref.whole cc0_scratch4 : Memref sig .tc .vmem S512x4096 .f32).view.WordExact}
    {k : PUnit → Prog (TpuEff nD τ sig (Elt F) Λ₀ .tc) α} :
    iprop(levAts L lv ∗ Ow c n ∗ FX m c d)
      ⊢ iprop(((Ow c n ∗ XA m c ∗ XS c (xh m d c) ∗ zx (F := F) c)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 xS srcw (Memref.whole cc0_scratch4) hsrc hdst) k) Q) := by
  unfold FX
  exact fly_wait c (M := Memref.whole main_arg0) (r := xRect d) (hr := fun _ => rfl) (dst := Memref.whole cc0_scratch4) (sm := xS) lvOf_x n hlt

/-- The start of the copy of a chunk of the weights. -/
theorem w_start (s : Fin 2) (r : Fin 8) {hsrc : ((Memref.whole main_arg1).slice (wRect c r) (fun _ => rfl)).view.WordExact}
    {hdst : (wsM s).view.WordExact}
    {hsem : DmaTarget.Typed (nD := nD) (τ := τ) (p := .tc) .hbm (.dma (wS s)) (.here (wsM s))}
    {k : PUnit → Prog (TpuEff nD τ sig (Elt F) Λ₀ .tc) α} :
    iprop(WA m c s ∗ (∃ X, WS (F := F) c s X) ∗ zw (F := F) c s)
      ⊢ iprop((FW m c s r -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma ((Memref.whole main_arg1).slice (wRect c r) (fun _ => rfl)) (.here (wsM s)) (.dma (wS s)) hsrc hdst hsem) k) Q) := by
  unfold FW
  exact fly_start c (M := Memref.whole main_arg1) (r := wRect c r) (hr := fun _ => rfl) (dst := wsM s) (sm := wS s) (credit_w s)

/-- Its wait. -/
theorem w_wait (s : Fin 2) (r : Fin 8) (n : ℕ) (hlt : ∀ j < n, 0 < dueLv j)
    {s₂ : Shape} {e₂ : EltTy} {sp₂ : Space} {srcw : Memref sig .tc sp₂ s₂ e₂} {hsrc : srcw.view.WordExact}
    {hdst : (wsM s).view.WordExact}
    {k : PUnit → Prog (TpuEff nD τ sig (Elt F) Λ₀ .tc) α} :
    iprop(levAts L lv ∗ Ow c n ∗ FW m c s r)
      ⊢ iprop(((Ow c n ∗ WA m c s ∗ WS c s (wch m c r) ∗ zw (F := F) c s)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 (wS s) srcw (wsM s) hsrc hdst) k) Q) := by
  unfold FW
  exact fly_wait c (M := Memref.whole main_arg1) (r := wRect c r) (hr := fun _ => rfl) (dst := wsM s) (sm := wS s) (lvOf_w s) n hlt

/-- The converted weights read where the program does not use what it reads. -/
theorem w8_peek (n : ℕ) {r : Rect S4096x2048} {hl : (Memref.whole cc0_scratch2 : Memref sig .tc .vmem S4096x2048 .fp8e5m2).view.LoadsAt r.toLoadRect}
    {k : (r.shape.Idx → Elt F .fp8e5m2) → Prog (TpuEff nD τ sig (Elt F) Λ₀ .tc) α} :
    W8 m c n
      ⊢ iprop((∀ v, W8 m c n -∗ wp frame (wpE (defs₀ (F := F)) 𝒱₀ (c : Thread nD τ) none) Set.univ (k v) Q)
        -∗ wp frame (wpE (defs₀ (F := F)) 𝒱₀ (c : Thread nD τ) none) Set.univ
            (.op (.load (Memref.whole cc0_scratch2 : Memref sig .tc .vmem S4096x2048 .fp8e5m2) r.toLoadRect hl) k) Q) := by
  unfold W8
  iintro ⟨%X, %hX, H⟩ Hk
  iapply (load_owns 𝒱₀ (c : Thread nD τ) none) $$ H
  iintro H
  iapply Hk
  iexists X
  isplitr; · ipureintro; exact hX
  iexact H

/-- A chunk put in place. -/
theorem w8_put_at (n n' : ℕ) {R : Rect S4096x2048} {w : R.shape.Idx → Elt F .fp8e5m2} (hput : ∀ X, Cols m c n X → Cols m c n' (R.overlay X w))
    {hx : ((Memref.whole cc0_scratch2 : Memref sig .tc .vmem S4096x2048 .fp8e5m2).access R).Stores Finset.univ}
    {hm : Finset.univ = Finset.univ ∨ ∀ a, R.stride a = 1}
    {k : PUnit → Prog (TpuEff nD τ sig (Elt F) Λ₀ .tc) α} :
    W8 m c n
      ⊢ iprop((W8 m c n' -∗ wp frame (wpE (defs₀ (F := F)) 𝒱₀ (c : Thread nD τ) none) Set.univ (k ⟨⟩) Q)
        -∗ wp frame (wpE (defs₀ (F := F)) 𝒱₀ (c : Thread nD τ) none) Set.univ
            (.op (.store (Memref.whole cc0_scratch2 : Memref sig .tc .vmem S4096x2048 .fp8e5m2) R w Finset.univ hx hm) k) Q) := by
  unfold W8
  iintro ⟨%X, %hX, H⟩ Hk
  iapply (store_owns 𝒱₀ (c : Thread nD τ) none) $$ H
  iintro H
  iapply Hk
  iexists (R.overlay X w)
  isplitr; · ipureintro; exact hput X hX
  iexact H

/-- A chunk put in place. -/
theorem w8_put (n : ℕ) (hn : n < 8) {off : Fin 2 → ℕ} (hoff : off = ![0, 256 * n]) {inb} {w : S4096x256.Idx → Elt F .fp8e5m2}
    (hw : w = truncf .fp8e5m2 (wch m c ⟨n, hn⟩) bitsLt_fp8e5m2_f32)
    {hx : ((Memref.whole cc0_scratch2 : Memref sig .tc .vmem S4096x2048 .fp8e5m2).access (Rect.unit (s := S4096x2048) off S4096x256.size inb)).Stores Finset.univ}
    {hm : Finset.univ = Finset.univ ∨ ∀ a, (Rect.unit (s := S4096x2048) off S4096x256.size inb).stride a = 1}
    {k : PUnit → Prog (TpuEff nD τ sig (Elt F) Λ₀ .tc) α} :
    W8 m c n
      ⊢ iprop((W8 m c (n + 1) -∗ wp frame (wpE (defs₀ (F := F)) 𝒱₀ (c : Thread nD τ) none) Set.univ (k ⟨⟩) Q)
        -∗ wp frame (wpE (defs₀ (F := F)) 𝒱₀ (c : Thread nD τ) none) Set.univ
            (.op (.store (Memref.whole cc0_scratch2 : Memref sig .tc .vmem S4096x2048 .fp8e5m2) (Rect.unit (s := S4096x2048) off S4096x256.size inb) w Finset.univ hx hm) k) Q) :=
  w8_put_at m c n (n + 1) fun X hX => cols_store m c ⟨n, hn⟩ hX hoff hw

/-- All of them read. -/
theorem w8_get_at (n : ℕ) {R : Rect S4096x2048} (v : R.shape.Idx → Elt F .fp8e5m2) (hv : ∀ X, Cols m c n X → (fun j => X (R.emb j)) = v)
    {hl : (Memref.whole cc0_scratch2 : Memref sig .tc .vmem S4096x2048 .fp8e5m2).view.LoadsAt R.toLoadRect}
    {k : (R.shape.Idx → Elt F .fp8e5m2) → Prog (TpuEff nD τ sig (Elt F) Λ₀ .tc) α} :
    W8 m c n
      ⊢ iprop((W8 m c n -∗ wp frame (wpE (defs₀ (F := F)) 𝒱₀ (c : Thread nD τ) none) Set.univ (k v) Q)
        -∗ wp frame (wpE (defs₀ (F := F)) 𝒱₀ (c : Thread nD τ) none) Set.univ
            (.op (.load (Memref.whole cc0_scratch2 : Memref sig .tc .vmem S4096x2048 .fp8e5m2) R.toLoadRect hl) k) Q) := by
  unfold W8
  iintro ⟨%X, %hX, H⟩ Hk
  iapply (load_owns 𝒱₀ (c : Thread nD τ) none) $$ H
  iintro H
  have e := hv X hX
  subst e
  iapply Hk
  iexists X
  isplitr; · ipureintro; exact hX
  iexact H

/-- All of them read. -/
theorem w8_get {off : Fin 2 → ℕ} {inb : ∀ a, off a + S4096x2048.size a ≤ S4096x2048.size a}
    {hl : (Memref.whole cc0_scratch2 : Memref sig .tc .vmem S4096x2048 .fp8e5m2).view.LoadsAt (Rect.unit (s := S4096x2048) off S4096x2048.size inb).toLoadRect}
    {k : (S4096x2048.Idx → Elt F .fp8e5m2) → Prog (TpuEff nD τ sig (Elt F) Λ₀ .tc) α} :
    W8 m c 8
      ⊢ iprop((W8 m c 8 -∗ wp frame (wpE (defs₀ (F := F)) 𝒱₀ (c : Thread nD τ) none) Set.univ (k (w8 m c)) Q)
        -∗ wp frame (wpE (defs₀ (F := F)) 𝒱₀ (c : Thread nD τ) none) Set.univ
            (.op (.load (Memref.whole cc0_scratch2 : Memref sig .tc .vmem S4096x2048 .fp8e5m2) (Rect.unit (s := S4096x2048) off S4096x2048.size inb).toLoadRect hl) k) Q) :=
  w8_get_at m c 8 (R := Rect.unit (s := S4096x2048) off S4096x2048.size inb) (w8 m c) fun X hX =>
    (show (fun j => X ((Rect.unit (s := S4096x2048) off S4096x2048.size inb).emb j)) = X from funext fun j => congrArg X (Rect.emb_unit_full (s := S4096x2048) (off := off) inb j)).trans (cols_all m c hX)

/-- The rows' staging buffer read. -/
theorem xs_get_at {R : Rect S512x4096} {X : S512x4096.Idx → Elt F .f32} (v : R.shape.Idx → Elt F .f32) (hv : (fun j => X (R.emb j)) = v)
    {hl : (Memref.whole cc0_scratch4 : Memref sig .tc .vmem S512x4096 .f32).view.LoadsAt R.toLoadRect}
    {k : (R.shape.Idx → Elt F .f32) → Prog (TpuEff nD τ sig (Elt F) Λ₀ .tc) α} :
    XS c X
      ⊢ iprop((XS c X -∗ wp frame (wpE (defs₀ (F := F)) 𝒱₀ (c : Thread nD τ) none) Set.univ (k v) Q)
        -∗ wp frame (wpE (defs₀ (F := F)) 𝒱₀ (c : Thread nD τ) none) Set.univ
            (.op (.load (Memref.whole cc0_scratch4 : Memref sig .tc .vmem S512x4096 .f32) R.toLoadRect hl) k) Q) := by
  iintro H Hk
  iapply (load_owns 𝒱₀ (c : Thread nD τ) none) $$ H
  iintro H
  subst hv
  iapply Hk
  iexact H

/-- The rows' staging buffer read, whole. -/
theorem xs_get {off : Fin 2 → ℕ} {inb : ∀ a, off a + S512x4096.size a ≤ S512x4096.size a} {X : S512x4096.Idx → Elt F .f32}
    {hl : (Memref.whole cc0_scratch4 : Memref sig .tc .vmem S512x4096 .f32).view.LoadsAt (Rect.unit (s := S512x4096) off S512x4096.size inb).toLoadRect}
    {k : (S512x4096.Idx → Elt F .f32) → Prog (TpuEff nD τ sig (Elt F) Λ₀ .tc) α} :
    XS c X
      ⊢ iprop((XS c X -∗ wp frame (wpE (defs₀ (F := F)) 𝒱₀ (c : Thread nD τ) none) Set.univ (k X) Q)
        -∗ wp frame (wpE (defs₀ (F := F)) 𝒱₀ (c : Thread nD τ) none) Set.univ
            (.op (.load (Memref.whole cc0_scratch4 : Memref sig .tc .vmem S512x4096 .f32) (Rect.unit (s := S512x4096) off S512x4096.size inb).toLoadRect hl) k) Q) :=
  xs_get_at c (R := Rect.unit (s := S512x4096) off S512x4096.size inb) X (funext fun j => congrArg X (Rect.emb_unit_full (s := S512x4096) (off := off) inb j))

/-- The result read where the program does not use what it reads. -/
theorem out_peek (S : List (Bool × Dev nD)) {r : Rect S4096x2048} {hl : (Memref.whole cc0_stg2_0 : Memref sig .tc .vmem S4096x2048 .bf16).view.LoadsAt r.toLoadRect}
    {k : (r.shape.Idx → Elt F .bf16) → Prog (TpuEff nD τ sig (Elt F) Λ₀ .tc) α} :
    OutR m c S
      ⊢ iprop((∀ v, OutR m c S -∗ wp frame (wpE (defs₀ (F := F)) 𝒱₀ (c : Thread nD τ) none) Set.univ (k v) Q)
        -∗ wp frame (wpE (defs₀ (F := F)) 𝒱₀ (c : Thread nD τ) none) Set.univ
            (.op (.load (Memref.whole cc0_stg2_0 : Memref sig .tc .vmem S4096x2048 .bf16) r.toLoadRect hl) k) Q) := by
  unfold OutR
  iintro ⟨%X, %hX, H⟩ Hk
  iapply (load_owns 𝒱₀ (c : Thread nD τ) none) $$ H
  iintro H
  iapply Hk
  iexists X
  isplitr; · ipureintro; exact hX
  iexact H

/-- A block of the result put in place. -/
theorem out_put_at (S S' : List (Bool × Dev nD)) {R : Rect S4096x2048} {w : R.shape.Idx → Elt F .bf16} (hput : ∀ X, Rows m c S X → Rows m c S' (R.overlay X w))
    {hx : ((Memref.whole cc0_stg2_0 : Memref sig .tc .vmem S4096x2048 .bf16).access R).Stores Finset.univ}
    {hm : Finset.univ = Finset.univ ∨ ∀ a, R.stride a = 1}
    {k : PUnit → Prog (TpuEff nD τ sig (Elt F) Λ₀ .tc) α} :
    OutR m c S
      ⊢ iprop((OutR m c S' -∗ wp frame (wpE (defs₀ (F := F)) 𝒱₀ (c : Thread nD τ) none) Set.univ (k ⟨⟩) Q)
        -∗ wp frame (wpE (defs₀ (F := F)) 𝒱₀ (c : Thread nD τ) none) Set.univ
            (.op (.store (Memref.whole cc0_stg2_0 : Memref sig .tc .vmem S4096x2048 .bf16) R w Finset.univ hx hm) k) Q) := by
  unfold OutR
  iintro ⟨%X, %hX, H⟩ Hk
  iapply (store_owns 𝒱₀ (c : Thread nD τ) none) $$ H
  iintro H
  iapply Hk
  iexists (R.overlay X w)
  isplitr; · ipureintro; exact hput X hX
  iexact H

/-- A block of the result put in place. -/
theorem out_put (S : List (Bool × Dev nD)) (d : Bool) (o : Dev nD) {off : Fin 2 → ℕ} (hoff : off = ![rowOff d o, 0]) {inb}
    {w : S512x2048.Idx → Elt F .bf16} (hw : w = rblk m c d o)
    {hx : ((Memref.whole cc0_stg2_0 : Memref sig .tc .vmem S4096x2048 .bf16).access (Rect.unit (s := S4096x2048) off S512x2048.size inb)).Stores Finset.univ}
    {hm : Finset.univ = Finset.univ ∨ ∀ a, (Rect.unit (s := S4096x2048) off S512x2048.size inb).stride a = 1}
    {k : PUnit → Prog (TpuEff nD τ sig (Elt F) Λ₀ .tc) α} :
    OutR m c S
      ⊢ iprop((OutR m c ((d, o) :: S) -∗ wp frame (wpE (defs₀ (F := F)) 𝒱₀ (c : Thread nD τ) none) Set.univ (k ⟨⟩) Q)
        -∗ wp frame (wpE (defs₀ (F := F)) 𝒱₀ (c : Thread nD τ) none) Set.univ
            (.op (.store (Memref.whole cc0_stg2_0 : Memref sig .tc .vmem S4096x2048 .bf16) (Rect.unit (s := S4096x2048) off S512x2048.size inb) w Finset.univ hx hm) k) Q) :=
  out_put_at m c S ((d, o) :: S) fun X hX => rows_store m c d o hX hoff hw

end Steps

end Cert.KernelIdeal.Ring
-- ==== Proof.BodyA.lean ====
/-
The body's first steps: the copies started, the neighbours' signals, the first hop of each direction.
-/
module

public import proofs.«01_k».proof.Proof.State

@[expose] public section

noncomputable section

namespace Cert.KernelIdeal.Ring

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- The first copies started, both neighbours told that this device's landing slots are free. -/
theorem part1  {Q : (Σ' (d0 : Dev nD) (v2 : BitVec 32) (v4 : BitVec 32) (v6 : BitVec 32) (v7 : BitVec 32), Sems sig S_) → sProp (MT nD τ sig Unit (Elt F) ℕ UU ℕ)} :
    iprop(recs m K ∗ Ow (F := F) c 8 ∗ XA m c ∗ (∃ X, XS (F := F) c X) ∗ zx (F := F) c ∗ WA m c 0 ∗ WA m c 1 ∗ (∃ X, WS (F := F) c 0 X) ∗ (∃ X, WS (F := F) c 1 X) ∗ zw (F := F) c 0 ∗ zw (F := F) c 1 ∗ land (F := F) true c ∗ land (F := F) false c ∗ dutyTok ER (barCell (step false c)) 0 true ∗ dutyTok ER (barCell (step true c)) 0 false)
      ⊢ iprop((∀ v2 v4 v6 v7, (Ow (F := F) c 6 ∗ FX m c true ∗ FW m c 0 0 ∗ FW m c 1 1) -∗ Q ⟨c, v2, v4, v6, v7, SemArray.scalar (sig.barrier 0 rfl)⟩)
        -∗ wp frame (wpE (defs₀ (F := F)) 𝒱₀ (c : Thread nD τ) none) Set.univ
          (k0_part1 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 ) Q) := by
  rw [k0_part1_eq_skeleton]
  unfold k0_part1_skel
  simp only [semSignalWord, semWaitWord, smemLoad, smemLoadElt, Prog.lift, Prog.bind_op, Prog.bind_ret, Prog.pure_eq_ret, wp_deviceId]
  iintro ⟨#HR, HO, HX, HXS, Hzx, HW0, HW1, HS0, HS1, Hz0, Hz1, Hlt, Hlf, Ht1, Ht2⟩ Hk
  iapply (x_start m c true) $$ [HX HXS Hzx]
  · isplitl [HX]; · iexact HX
    isplitl [HXS]; · iexact HXS
    iexact Hzx
  iintro HFx
  iapply (w_start m c 0 0) $$ [HW0 HS0 Hz0]
  · isplitl [HW0]; · iexact HW0
    isplitl [HS0]; · iexact HS0
    iexact Hz0
  iintro HF0
  iapply (w_start m c 1 1) $$ [HW1 HS1 Hz1]
  · isplitl [HW1]; · iexact HW1
    isplitl [HS1]; · iexact HS1
    iexact Hz1
  iintro HF1
  iapply (ring_signal m K c true ⟨k0_dev1 c, k0_dev1_lt c⟩ (dev1_eq c) 7 rfl rfl) $$ [HO Ht1 Hlt]
  · isplitr; · iexact HR
    isplitl [HO]; · iexact HO
    isplitl [Ht1]; · iexact Ht1
    iexact Hlt
  iintro HO
  iapply (ring_signal m K c false ⟨k0_dev2 c, k0_dev2_lt c⟩ (dev2_eq c) 6 rfl rfl) $$ [HO Ht2 Hlf]
  · isplitr; · iexact HR
    isplitl [HO]; · iexact HO
    isplitl [Ht2]; · iexact Ht2
    iexact Hlf
  iintro HO
  rw [wp_ret]
  imodintro
  iapply Hk
  isplitl [HO]; · iexact HO
  isplitl [HFx]; · iexact HFx
  isplitl [HF0]; · iexact HF0
  iexact HF1

/-- The barrier, the scale, the top half of the rows converted and sent on, the bottom half converted. -/
theorem part2 (v6 : BitVec 32) {Q : (Σ' (v28 : F .f32), FVec F S512x4096 .fp8e4m3) → sProp (MT nD τ sig Unit (Elt F) ℕ UU ℕ)} :
    iprop(recs m K ∗ levAts L lv ∗ Ow (F := F) c 6 ∗ cred (tallyAt (barCell c) () 2) ∗ atPos ER (barCell c) 0 ∅ 0 ∗ owns (c : Thread nD τ) (Memref.whole cc0_stg0_0) fullShare (m ((c : Thread nD τ).loc main_arg2) : S1.Idx → Elt F .f32) ∗ owns (c : Thread nD τ) (Memref.whole cc0_stg1_0) fullShare (m ((c : Thread nD τ).loc main_arg3) : S1.Idx → Elt F .f32) ∗ FX m c true ∗ anySlot (F := F) true 0 c ∗ anySlot (F := F) false 0 c ∗ SendTok (F := F) c true 0)
      ⊢ iprop(((Ow (F := F) c 5 ∗ semVal (barCell c) 0 ∗ land (F := F) false (step false c) ∗ anySlot (F := F) true 2 (step true c) ∗ anySlot (F := F) true 3 (step true c) ∗ owns (c : Thread nD τ) (Memref.whole cc0_stg0_0) fullShare (m ((c : Thread nD τ).loc main_arg2) : S1.Idx → Elt F .f32) ∗ owns (c : Thread nD τ) (Memref.whole cc0_stg1_0) fullShare (m ((c : Thread nD τ).loc main_arg3) : S1.Idx → Elt F .f32) ∗ XA m c ∗ (∃ X, XS (F := F) c X) ∗ zx (F := F) c ∗ anySlot (F := F) false 0 c ∗ rgt m c true 0 ∗ CrS (F := F) c true 0) -∗ Q ⟨scl m c, x8 m false c⟩)
        -∗ wp frame (wpE (defs₀ (F := F)) 𝒱₀ (c : Thread nD τ) none) Set.univ
          (k0_part2 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v6 (SemArray.scalar (sig.barrier 0 rfl))) Q) := by
  rw [k0_part2_eq_skeleton]
  unfold k0_part2_skel
  simp only [semSignalWord, semWaitWord, smemLoad, smemLoadElt, Prog.lift, Prog.bind_op, Prog.bind_ret, Prog.pure_eq_ret, wp_deviceId]
  iintro ⟨#HR, #HL, HO, Hcb, Hab, Hs2, Hs3, HFx, ⟨%Yt, Hct0⟩, ⟨%Yf, Hcf0⟩, ⟨Htt1, Htt2⟩⟩ Hk
  iapply (ring_wait_bar m K c 6 (by decide)) $$ [HO Hcb Hab]
  · isplitr; · iexact HR
    isplitr; · iexact HL
    isplitl [HO]; · iexact HO
    isplitl [Hcb]; · iexact Hcb
    iexact Hab
  iintro ⟨HO, Hzb, Hlf, Hlt⟩
  unfold land
  icases Hlt with ⟨Hd1, Hd2, Hd3⟩
  iapply (load_owns 𝒱₀ (c : Thread nD τ) none) $$ Hs2
  iintro Hs2
  iapply (load_owns 𝒱₀ (c : Thread nD τ) none) $$ Hs3
  iintro Hs3
  iapply (x_wait m c true 6 (by decide)) $$ [HO HFx]
  · isplitr; · iexact HL
    isplitl [HO]; · iexact HO
    iexact HFx
  iintro ⟨HO, HX, HXS, Hzx⟩
  iapply (xs_get c) $$ HXS
  iintro HXS
  iapply (load_slot 𝒱₀ (c : Thread nD τ) none) $$ Hct0
  iintro Hct0
  iapply (store_slot 𝒱₀ (c : Thread nD τ) none) $$ Hct0
  iintro Hct0
  rw [pay2_slot]
  iapply (ring_send m K c true 0 ⟨k0_dev3 c, k0_dev3_lt c⟩ (dev3_eq c) 5 rfl rfl) $$ [HO Hct0 Hd1 Htt1 Htt2]
  · isplitr; · iexact HR
    isplitl [HO]; · iexact HO
    isplitl [Hct0]; · iexact Hct0
    isplitl [Hd1]; · iexact Hd1
    isplitl [Htt1]; · iexact Htt1
    iexact Htt2
  iintro ⟨HO, Hr, Hcr⟩
  iapply (x_start m c false) $$ [HX HXS Hzx]
  · isplitl [HX]; · iexact HX
    isplitl [HXS]; · iexists _; iexact HXS
    iexact Hzx
  iintro HFx
  iapply (x_wait m c false 5 (by decide)) $$ [HO HFx]
  · isplitr; · iexact HL
    isplitl [HO]; · iexact HO
    iexact HFx
  iintro ⟨HO, HX, HXS, Hzx⟩
  iapply (xs_get c) $$ HXS
  iintro HXS
  iapply (load_slot 𝒱₀ (c : Thread nD τ) none) $$ Hcf0
  iintro Hcf0
  dsimp only
  rw [scl_at, show k0_pay3 (xh m false c) = x8 m false c from rfl]
  rw [wp_ret]
  imodintro
  iapply Hk
  isplitl [HO]; · iexact HO
  isplitl [Hzb]; · iexact Hzb
  isplitl [Hlf]; · iexact Hlf
  isplitl [Hd2]; · iexact Hd2
  isplitl [Hd3]; · iexact Hd3
  isplitl [Hs2]; · iexact Hs2
  isplitl [Hs3]; · iexact Hs3
  isplitl [HX]; · iexact HX
  isplitl [HXS]; · iexists _; iexact HXS
  isplitl [Hzx]; · iexact Hzx
  isplitl [Hcf0]; · iexists _; iexact Hcf0
  isplitl [Hr]; · iexact Hr
  iexact Hcr

end Cert.KernelIdeal.Ring
-- ==== Proof.BodyB.lean ====
/-
The weights: eight chunks copied into two staging slots by turns, converted and put in place.
-/
module

public import proofs.«01_k».proof.Proof.State

@[expose] public section

noncomputable section

namespace Cert.KernelIdeal.Ring

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- The bottom half sent on, the first chunk put in place. -/
theorem part3 (v4 v7 : BitVec 32) {Q : PUnit → sProp (MT nD τ sig Unit (Elt F) ℕ UU ℕ)} :
    iprop(recs m K ∗ levAts L lv ∗ Ow (F := F) c 5 ∗ anySlot (F := F) false 0 c ∗ land (F := F) false (step false c) ∗ SendTok (F := F) c false 0 ∗ FW m c 0 0 ∗ W8 m c 0)
      ⊢ iprop(((Ow (F := F) c 4 ∗ anySlot (F := F) false 2 (step false c) ∗ anySlot (F := F) false 3 (step false c) ∗ rgt m c false 0 ∗ CrS (F := F) c false 0 ∗ WA m c 0 ∗ (∃ X, WS (F := F) c 0 X) ∗ zw (F := F) c 0 ∗ W8 m c 1) -∗ Q ⟨⟩)
        -∗ wp frame (wpE (defs₀ (F := F)) 𝒱₀ (c : Thread nD τ) none) Set.univ
          (k0_part3 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v4 v7 (x8 m false c)) Q) := by
  rw [k0_part3_eq_skeleton]
  unfold k0_part3_skel
  simp only [semSignalWord, semWaitWord, smemLoad, smemLoadElt, Prog.lift, Prog.bind_op, Prog.bind_ret, Prog.pure_eq_ret, wp_deviceId]
  iintro ⟨#HR, #HL, HO, ⟨%Yf, Hcf0⟩, Hlf, ⟨Hkf1, Hkf2⟩, HF0, Hw8⟩ Hk
  unfold land
  icases Hlf with ⟨Hdf1, Hdf2, Hdf3⟩
  iapply (store_slot 𝒱₀ (c : Thread nD τ) none) $$ Hcf0
  iintro Hcf0
  rw [pay4_slot]
  iapply (ring_send m K c false 0 ⟨k0_dev4 c, k0_dev4_lt c⟩ (dev4_eq c) 4 rfl rfl) $$ [HO Hcf0 Hdf1 Hkf1 Hkf2]
  · isplitr; · iexact HR
    isplitl [HO]; · iexact HO
    isplitl [Hcf0]; · iexact Hcf0
    isplitl [Hdf1]; · iexact Hdf1
    isplitl [Hkf1]; · iexact Hkf1
    iexact Hkf2
  iintro ⟨HO, Hrf0, Hcrf0⟩
  iapply (w_wait m c 0 0 4 (by decide)) $$ [HO HF0]
  · isplitr; · iexact HL
    isplitl [HO]; · iexact HO
    iexact HF0
  iintro ⟨HO, HW0, HS0, Hz0⟩
  iapply (load_slot 𝒱₀ (c : Thread nD τ) none) $$ HS0
  iintro HS0
  iapply (w8_peek m c 0) $$ Hw8
  iintro %v Hw8
  iapply (w8_put m c 0 (by decide) rfl (pay5_slot _ _)) $$ Hw8
  iintro Hw8
  rw [wp_ret]
  imodintro
  iapply Hk
  isplitl [HO]; · iexact HO
  isplitl [Hdf2]; · iexact Hdf2
  isplitl [Hdf3]; · iexact Hdf3
  isplitl [Hrf0]; · iexact Hrf0
  isplitl [Hcrf0]; · iexact Hcrf0
  isplitl [HW0]; · iexact HW0
  isplitl [HS0]; · iexists _; iexact HS0
  isplitl [Hz0]; · iexact Hz0
  iexact Hw8

/-- Chunks 1 and 2. -/
theorem part4 (v7 : BitVec 32) {Q : FVec F S4096x256 .fp8e5m2 → sProp (MT nD τ sig Unit (Elt F) ℕ UU ℕ)} :
    iprop(levAts L lv ∗ Ow (F := F) c 4 ∗ WA m c 0 ∗ (∃ X, WS (F := F) c 0 X) ∗ zw (F := F) c 0 ∗ FW m c 1 1 ∗ W8 m c 1)
      ⊢ iprop(((Ow (F := F) c 4 ∗ WA m c 0 ∗ (∃ X, WS (F := F) c 0 X) ∗ zw (F := F) c 0 ∗ FW m c 1 3 ∗ W8 m c 2) -∗ Q (truncf .fp8e5m2 (wch m c 2) bitsLt_fp8e5m2_f32))
        -∗ wp frame (wpE (defs₀ (F := F)) 𝒱₀ (c : Thread nD τ) none) Set.univ
          (k0_part4 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v7) Q) := by
  rw [k0_part4_eq_skeleton]
  unfold k0_part4_skel
  simp only [semSignalWord, semWaitWord, smemLoad, smemLoadElt, Prog.lift, Prog.bind_op, Prog.bind_ret, Prog.pure_eq_ret, wp_deviceId]
  iintro ⟨#HL, HO, HW0, HS0, Hz0, HF1, Hw8⟩ Hk
  iapply (w_start m c 0 2) $$ [HW0 HS0 Hz0]
  · isplitl [HW0]; · iexact HW0
    isplitl [HS0]; · iexact HS0
    iexact Hz0
  iintro HF0
  iapply (w_wait m c 1 1 4 (by decide)) $$ [HO HF1]
  · isplitr; · iexact HL
    isplitl [HO]; · iexact HO
    iexact HF1
  iintro ⟨HO, HW1, HS1, Hz1⟩
  iapply (load_slot 𝒱₀ (c : Thread nD τ) none) $$ HS1
  iintro HS1
  iapply (w8_peek m c 1) $$ Hw8
  iintro %v Hw8
  iapply (w8_put m c 1 (by decide) rfl (pay6_slot _ _)) $$ Hw8
  iintro Hw8
  iapply (w_start m c 1 3) $$ [HW1 HS1 Hz1]
  · isplitl [HW1]; · iexact HW1
    isplitl [HS1]; · iexists _; iexact HS1
    iexact Hz1
  iintro HF1
  iapply (w_wait m c 0 2 4 (by decide)) $$ [HO HF0]
  · isplitr; · iexact HL
    isplitl [HO]; · iexact HO
    iexact HF0
  iintro ⟨HO, HW0, HS0, Hz0⟩
  iapply (load_slot 𝒱₀ (c : Thread nD τ) none) $$ HS0
  iintro HS0
  erw [pay7_slot]
  rw [wp_ret]
  imodintro
  iapply Hk
  isplitl [HO]; · iexact HO
  isplitl [HW0]; · iexact HW0
  isplitl [HS0]; · iexists _; iexact HS0
  isplitl [Hz0]; · iexact Hz0
  isplitl [HF1]; · iexact HF1
  iexact Hw8

/-- Chunks 2 and 3. -/
theorem part5 (v7 : BitVec 32) {Q : PUnit → sProp (MT nD τ sig Unit (Elt F) ℕ UU ℕ)} :
    iprop(levAts L lv ∗ Ow (F := F) c 4 ∗ WA m c 0 ∗ (∃ X, WS (F := F) c 0 X) ∗ zw (F := F) c 0 ∗ FW m c 1 3 ∗ W8 m c 2)
      ⊢ iprop(((Ow (F := F) c 4 ∗ FW m c 0 4 ∗ FW m c 1 5 ∗ W8 m c 4) -∗ Q ⟨⟩)
        -∗ wp frame (wpE (defs₀ (F := F)) 𝒱₀ (c : Thread nD τ) none) Set.univ
          (k0_part5 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v7 (truncf .fp8e5m2 (wch m c 2) bitsLt_fp8e5m2_f32)) Q) := by
  rw [k0_part5_eq_skeleton]
  unfold k0_part5_skel
  simp only [semSignalWord, semWaitWord, smemLoad, smemLoadElt, Prog.lift, Prog.bind_op, Prog.bind_ret, Prog.pure_eq_ret, wp_deviceId]
  iintro ⟨#HL, HO, HW0, HS0, Hz0, HF1, Hw8⟩ Hk
  iapply (w8_peek m c 2) $$ Hw8
  iintro %v Hw8
  iapply (w8_put m c 2 (by decide) rfl (pay8_self _)) $$ Hw8
  iintro Hw8
  iapply (w_start m c 0 4) $$ [HW0 HS0 Hz0]
  · isplitl [HW0]; · iexact HW0
    isplitl [HS0]; · iexact HS0
    iexact Hz0
  iintro HF0
  iapply (w_wait m c 1 3 4 (by decide)) $$ [HO HF1]
  · isplitr; · iexact HL
    isplitl [HO]; · iexact HO
    iexact HF1
  iintro ⟨HO, HW1, HS1, Hz1⟩
  iapply (load_slot 𝒱₀ (c : Thread nD τ) none) $$ HS1
  iintro HS1
  iapply (w8_peek m c 3) $$ Hw8
  iintro %v Hw8
  iapply (w8_put m c 3 (by decide) rfl (pay9_slot _ _)) $$ Hw8
  iintro Hw8
  iapply (w_start m c 1 5) $$ [HW1 HS1 Hz1]
  · isplitl [HW1]; · iexact HW1
    isplitl [HS1]; · iexists _; iexact HS1
    iexact Hz1
  iintro HF1
  rw [wp_ret]
  imodintro
  iapply Hk
  isplitl [HO]; · iexact HO
  isplitl [HF0]; · iexact HF0
  isplitl [HF1]; · iexact HF1
  iexact Hw8

/-- Chunks 4 and 5. -/
theorem part6 (v7 : BitVec 32) {Q : PUnit → sProp (MT nD τ sig Unit (Elt F) ℕ UU ℕ)} :
    iprop(levAts L lv ∗ Ow (F := F) c 4 ∗ FW m c 0 4 ∗ FW m c 1 5 ∗ W8 m c 4)
      ⊢ iprop(((Ow (F := F) c 4 ∗ FW m c 0 6 ∗ WA m c 1 ∗ (∃ X, WS (F := F) c 1 X) ∗ zw (F := F) c 1 ∗ W8 m c 6) -∗ Q ⟨⟩)
        -∗ wp frame (wpE (defs₀ (F := F)) 𝒱₀ (c : Thread nD τ) none) Set.univ
          (k0_part6 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v7) Q) := by
  rw [k0_part6_eq_skeleton]
  unfold k0_part6_skel
  simp only [semSignalWord, semWaitWord, smemLoad, smemLoadElt, Prog.lift, Prog.bind_op, Prog.bind_ret, Prog.pure_eq_ret, wp_deviceId]
  iintro ⟨#HL, HO, HF0, HF1, Hw8⟩ Hk
  iapply (w_wait m c 0 4 4 (by decide)) $$ [HO HF0]
  · isplitr; · iexact HL
    isplitl [HO]; · iexact HO
    iexact HF0
  iintro ⟨HO, HW0, HS0, Hz0⟩
  iapply (load_slot 𝒱₀ (c : Thread nD τ) none) $$ HS0
  iintro HS0
  iapply (w8_peek m c 4) $$ Hw8
  iintro %v Hw8
  iapply (w8_put m c 4 (by decide) rfl (pay10_slot _ _)) $$ Hw8
  iintro Hw8
  iapply (w_start m c 0 6) $$ [HW0 HS0 Hz0]
  · isplitl [HW0]; · iexact HW0
    isplitl [HS0]; · iexists _; iexact HS0
    iexact Hz0
  iintro HF0
  iapply (w_wait m c 1 5 4 (by decide)) $$ [HO HF1]
  · isplitr; · iexact HL
    isplitl [HO]; · iexact HO
    iexact HF1
  iintro ⟨HO, HW1, HS1, Hz1⟩
  iapply (load_slot 𝒱₀ (c : Thread nD τ) none) $$ HS1
  iintro HS1
  iapply (w8_peek m c 5) $$ Hw8
  iintro %v Hw8
  iapply (w8_put m c 5 (by decide) rfl (pay11_slot _ _)) $$ Hw8
  iintro Hw8
  rw [wp_ret]
  imodintro
  iapply Hk
  isplitl [HO]; · iexact HO
  isplitl [HF0]; · iexact HF0
  isplitl [HW1]; · iexact HW1
  isplitl [HS1]; · iexists _; iexact HS1
  isplitl [Hz1]; · iexact Hz1
  iexact Hw8

/-- Chunks 6 and 7. -/
theorem part7 (v7 : BitVec 32) {Q : FVec F S4096x256 .fp8e5m2 → sProp (MT nD τ sig Unit (Elt F) ℕ UU ℕ)} :
    iprop(levAts L lv ∗ Ow (F := F) c 4 ∗ FW m c 0 6 ∗ WA m c 1 ∗ (∃ X, WS (F := F) c 1 X) ∗ zw (F := F) c 1 ∗ W8 m c 6)
      ⊢ iprop(((Ow (F := F) c 4 ∗ WA m c 0 ∗ (∃ X, WS (F := F) c 0 X) ∗ zw (F := F) c 0 ∗ WA m c 1 ∗ (∃ X, WS (F := F) c 1 X) ∗ zw (F := F) c 1 ∗ W8 m c 7) -∗ Q (truncf .fp8e5m2 (wch m c 7) bitsLt_fp8e5m2_f32))
        -∗ wp frame (wpE (defs₀ (F := F)) 𝒱₀ (c : Thread nD τ) none) Set.univ
          (k0_part7 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v7) Q) := by
  rw [k0_part7_eq_skeleton]
  unfold k0_part7_skel
  simp only [semSignalWord, semWaitWord, smemLoad, smemLoadElt, Prog.lift, Prog.bind_op, Prog.bind_ret, Prog.pure_eq_ret, wp_deviceId]
  iintro ⟨#HL, HO, HF0, HW1, HS1, Hz1, Hw8⟩ Hk
  iapply (w_start m c 1 7) $$ [HW1 HS1 Hz1]
  · isplitl [HW1]; · iexact HW1
    isplitl [HS1]; · iexact HS1
    iexact Hz1
  iintro HF1
  iapply (w_wait m c 0 6 4 (by decide)) $$ [HO HF0]
  · isplitr; · iexact HL
    isplitl [HO]; · iexact HO
    iexact HF0
  iintro ⟨HO, HW0, HS0, Hz0⟩
  iapply (load_slot 𝒱₀ (c : Thread nD τ) none) $$ HS0
  iintro HS0
  iapply (w8_peek m c 6) $$ Hw8
  iintro %v Hw8
  iapply (w8_put m c 6 (by decide) rfl (pay12_slot _ _)) $$ Hw8
  iintro Hw8
  iapply (w_wait m c 1 7 4 (by decide)) $$ [HO HF1]
  · isplitr; · iexact HL
    isplitl [HO]; · iexact HO
    iexact HF1
  iintro ⟨HO, HW1, HS1, Hz1⟩
  iapply (load_slot 𝒱₀ (c : Thread nD τ) none) $$ HS1
  iintro HS1
  iapply (w8_peek m c 7) $$ Hw8
  iintro %v Hw8
  erw [pay13_slot]
  rw [wp_ret]
  imodintro
  iapply Hk
  isplitl [HO]; · iexact HO
  isplitl [HW0]; · iexact HW0
  isplitl [HS0]; · iexists _; iexact HS0
  isplitl [Hz0]; · iexact Hz0
  isplitl [HW1]; · iexact HW1
  isplitl [HS1]; · iexists _; iexact HS1
  isplitl [Hz1]; · iexact Hz1
  iexact Hw8

end Cert.KernelIdeal.Ring
-- ==== Proof.BodyC.lean ====
/-
The rounds of the ring: a block received, sent on, multiplied and put in place, three times in both directions.
-/
module

public import proofs.«01_k».proof.Proof.State

@[expose] public section

noncomputable section

namespace Cert.KernelIdeal.Ring

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

theorem off2_at : k0_off2 c = ![rowOff true ((step (!true))^[0] c), 0] := by revert c; decide +kernel
theorem off3_at : k0_off3 c = ![rowOff false ((step (!false))^[0] c), 0] := by revert c; decide +kernel
theorem off4_at1 : k0_off4 c 3#32 = ![rowOff true ((step (!true))^[1] c), 0] := by revert c; decide +kernel
theorem off5_at1 : k0_off5 c 0#32 = ![rowOff false ((step (!false))^[1] c), 0] := by revert c; decide +kernel
theorem off4_at2 : k0_off4 c 2#32 = ![rowOff true ((step (!true))^[2] c), 0] := by revert c; decide +kernel
theorem off5_at2 : k0_off5 c 1#32 = ![rowOff false ((step (!false))^[2] c), 0] := by revert c; decide +kernel
theorem off4_at3 : k0_off4 c 1#32 = ![rowOff true ((step (!true))^[3] c), 0] := by revert c; decide +kernel
theorem off5_at3 : k0_off5 c 2#32 = ![rowOff false ((step (!false))^[3] c), 0] := by revert c; decide +kernel

/-- The last chunk, and the blocks of the device's own rows. -/
theorem part8 (v2 v6 : BitVec 32) {Q : PUnit → sProp (MT nD τ sig Unit (Elt F) ℕ UU ℕ)} :
    iprop(recs m K ∗ levAts L lv ∗ Ow (F := F) c 4 ∗ W8 m c 7 ∗ rgt m c true 0 ∗ rgt m c false 0 ∗ OutR m c [] ∗ RecvTok (F := F) c true 0)
      ⊢ iprop(((Ow (F := F) c 4 ∗ W8 m c 8 ∗ rgt m c true 0 ∗ rgt m c false 0 ∗ OutR m c [(false, ((step (!false))^[0] c)), (true, ((step (!true))^[0] c))] ∗ zr (F := F) c true 0 ∗ slot true 1 c fullShare (xs m true 1 c)) -∗ Q ⟨⟩)
        -∗ wp frame (wpE (defs₀ (F := F)) 𝒱₀ (c : Thread nD τ) none) Set.univ
          (k0_part8 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 v6 (scl m c) (truncf .fp8e5m2 (wch m c 7) bitsLt_fp8e5m2_f32)) Q) := by
  rw [k0_part8_eq_skeleton]
  unfold k0_part8_skel
  simp only [semSignalWord, semWaitWord, smemLoad, smemLoadElt, Prog.lift, Prog.bind_op, Prog.bind_ret, Prog.pure_eq_ret, wp_deviceId]
  iintro ⟨#HR, #HL, HO, Hw8, Hrt0, Hrf0, Hout, ⟨Hrct, Hrat⟩⟩ Hk
  iapply (w8_put m c 7 (by decide) rfl (rfl)) $$ Hw8
  iintro Hw8
  iapply (load_slot 𝒱₀ (c : Thread nD τ) none) $$ Hrt0
  iintro Hrt0
  iapply (w8_get m c) $$ Hw8
  iintro Hw8
  iapply (out_peek m c []) $$ Hout
  iintro %v Hout
  iapply (out_put m c [] true (((step (!true))^[0] c)) (off2_at c) (pay14_slot _ _ _ _)) $$ Hout
  iintro Hout
  iapply (load_slot 𝒱₀ (c : Thread nD τ) none) $$ Hrf0
  iintro Hrf0
  iapply (w8_get m c) $$ Hw8
  iintro Hw8
  iapply (out_peek m c [(true, ((step (!true))^[0] c))]) $$ Hout
  iintro %v Hout
  iapply (out_put m c [(true, ((step (!true))^[0] c))] false (((step (!false))^[0] c)) (off3_at c) (pay15_slot _ _ _ _)) $$ Hout
  iintro Hout
  iapply (ring_wait_r m K c true 0 4 (by decide) (slot_credit true 1)) $$ [HO Hrct Hrat]
  · isplitr; · iexact HR
    isplitr; · iexact HL
    isplitl [HO]; · iexact HO
    isplitl [Hrct]; · iexact Hrct
    iexact Hrat
  iintro ⟨HO, Hzrt0, Hct1⟩
  rw [wp_ret]
  imodintro
  iapply Hk
  isplitl [HO]; · iexact HO
  isplitl [Hw8]; · iexact Hw8
  isplitl [Hrt0]; · iexact Hrt0
  isplitl [Hrf0]; · iexact Hrf0
  isplitl [Hout]; · iexact Hout
  isplitl [Hzrt0]; · iexact Hzrt0
  iexact Hct1

/-- The first block sent on, the other direction's received. -/
theorem part9 (v4 v6 : BitVec 32) {Q : PUnit → sProp (MT nD τ sig Unit (Elt F) ℕ UU ℕ)} :
    iprop(recs m K ∗ levAts L lv ∗ Ow (F := F) c 4 ∗ slot true 1 c fullShare (xs m true 1 c) ∗ anySlot (F := F) true 2 (step true c) ∗ SendTok (F := F) c true 1 ∗ RecvTok (F := F) c false 0)
      ⊢ iprop(((Ow (F := F) c 3 ∗ rgt m c true 1 ∗ CrS (F := F) c true 1 ∗ zr (F := F) c false 0 ∗ slot false 1 c fullShare (xs m false 1 c)) -∗ Q ⟨⟩)
        -∗ wp frame (wpE (defs₀ (F := F)) 𝒱₀ (c : Thread nD τ) none) Set.univ
          (k0_part9 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v4 v6) Q) := by
  rw [k0_part9_eq_skeleton]
  unfold k0_part9_skel
  simp only [semSignalWord, semWaitWord, smemLoad, smemLoadElt, Prog.lift, Prog.bind_op, Prog.bind_ret, Prog.pure_eq_ret, wp_deviceId]
  iintro ⟨#HR, #HL, HO, Hct1, Hdt2, ⟨Hkt1, Hkt2⟩, ⟨Hrcf, Hraf⟩⟩ Hk
  iapply (ring_send m K c true 1 ⟨k0_dev5 c, k0_dev5_lt c⟩ (dev5_eq c) 3 rfl rfl) $$ [HO Hct1 Hdt2 Hkt1 Hkt2]
  · isplitr; · iexact HR
    isplitl [HO]; · iexact HO
    isplitl [Hct1]; · iexact Hct1
    isplitl [Hdt2]; · iexact Hdt2
    isplitl [Hkt1]; · iexact Hkt1
    iexact Hkt2
  iintro ⟨HO, Hrt1, Hcrt1⟩
  iapply (ring_wait_r m K c false 0 3 (by decide) (slot_credit false 1)) $$ [HO Hrcf Hraf]
  · isplitr; · iexact HR
    isplitr; · iexact HL
    isplitl [HO]; · iexact HO
    isplitl [Hrcf]; · iexact Hrcf
    iexact Hraf
  iintro ⟨HO, Hzrf0, Hcf1⟩
  rw [wp_ret]
  imodintro
  iapply Hk
  isplitl [HO]; · iexact HO
  isplitl [Hrt1]; · iexact Hrt1
  isplitl [Hcrt1]; · iexact Hcrt1
  isplitl [Hzrf0]; · iexact Hzrf0
  iexact Hcf1

/-- That one sent on, and the blocks of the first hop. -/
theorem part10 (v2 v6 : BitVec 32) {Q : PUnit → sProp (MT nD τ sig Unit (Elt F) ℕ UU ℕ)} :
    iprop(recs m K ∗ Ow (F := F) c 3 ∗ slot false 1 c fullShare (xs m false 1 c) ∗ anySlot (F := F) false 2 (step false c) ∗ SendTok (F := F) c false 1 ∗ rgt m c true 1 ∗ W8 m c 8 ∗ OutR m c [(false, ((step (!false))^[0] c)), (true, ((step (!true))^[0] c))])
      ⊢ iprop(((Ow (F := F) c 2 ∗ rgt m c false 1 ∗ CrS (F := F) c false 1 ∗ rgt m c true 1 ∗ W8 m c 8 ∗ OutR m c [(false, ((step (!false))^[1] c)), (true, ((step (!true))^[1] c)), (false, ((step (!false))^[0] c)), (true, ((step (!true))^[0] c))]) -∗ Q ⟨⟩)
        -∗ wp frame (wpE (defs₀ (F := F)) 𝒱₀ (c : Thread nD τ) none) Set.univ
          (k0_part10 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 v6 (scl m c)) Q) := by
  rw [k0_part10_eq_skeleton]
  unfold k0_part10_skel
  simp only [semSignalWord, semWaitWord, smemLoad, smemLoadElt, Prog.lift, Prog.bind_op, Prog.bind_ret, Prog.pure_eq_ret, wp_deviceId]
  iintro ⟨#HR, HO, Hcf1, Hdf2, ⟨Hkf1, Hkf2⟩, Hrt1, Hw8, Hout⟩ Hk
  iapply (ring_send m K c false 1 ⟨k0_dev6 c, k0_dev6_lt c⟩ (dev6_eq c) 2 rfl rfl) $$ [HO Hcf1 Hdf2 Hkf1 Hkf2]
  · isplitr; · iexact HR
    isplitl [HO]; · iexact HO
    isplitl [Hcf1]; · iexact Hcf1
    isplitl [Hdf2]; · iexact Hdf2
    isplitl [Hkf1]; · iexact Hkf1
    iexact Hkf2
  iintro ⟨HO, Hrf1, Hcrf1⟩
  iapply (load_slot 𝒱₀ (c : Thread nD τ) none) $$ Hrt1
  iintro Hrt1
  iapply (w8_get m c) $$ Hw8
  iintro Hw8
  iapply (out_peek m c [(false, ((step (!false))^[0] c)), (true, ((step (!true))^[0] c))]) $$ Hout
  iintro %v Hout
  iapply (out_put m c [(false, ((step (!false))^[0] c)), (true, ((step (!true))^[0] c))] true (((step (!true))^[1] c)) (off4_at1 c) (pay16_slot _ _ _ _)) $$ Hout
  iintro Hout
  iapply (load_slot 𝒱₀ (c : Thread nD τ) none) $$ Hrf1
  iintro Hrf1
  iapply (w8_get m c) $$ Hw8
  iintro Hw8
  iapply (out_peek m c [(true, ((step (!true))^[1] c)), (false, ((step (!false))^[0] c)), (true, ((step (!true))^[0] c))]) $$ Hout
  iintro %v Hout
  iapply (out_put m c [(true, ((step (!true))^[1] c)), (false, ((step (!false))^[0] c)), (true, ((step (!true))^[0] c))] false (((step (!false))^[1] c)) (off5_at1 c) (pay17_slot _ _ _ _)) $$ Hout
  iintro Hout
  rw [wp_ret]
  imodintro
  iapply Hk
  isplitl [HO]; · iexact HO
  isplitl [Hrf1]; · iexact Hrf1
  isplitl [Hcrf1]; · iexact Hcrf1
  isplitl [Hrt1]; · iexact Hrt1
  isplitl [Hw8]; · iexact Hw8
  iexact Hout

/-- The second hop received in both directions, sent on in one. -/
theorem part11 (v4 v6 : BitVec 32) {Q : PUnit → sProp (MT nD τ sig Unit (Elt F) ℕ UU ℕ)} :
    iprop(recs m K ∗ levAts L lv ∗ Ow (F := F) c 2 ∗ RecvTok (F := F) c true 1 ∗ RecvTok (F := F) c false 1 ∗ anySlot (F := F) true 3 (step true c) ∗ SendTok (F := F) c true 2)
      ⊢ iprop(((Ow (F := F) c 1 ∗ zr (F := F) c true 1 ∗ rgt m c true 2 ∗ CrS (F := F) c true 2 ∗ zr (F := F) c false 1 ∗ slot false 2 c fullShare (xs m false 2 c)) -∗ Q ⟨⟩)
        -∗ wp frame (wpE (defs₀ (F := F)) 𝒱₀ (c : Thread nD τ) none) Set.univ
          (k0_part11 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v4 v6) Q) := by
  rw [k0_part11_eq_skeleton]
  unfold k0_part11_skel
  simp only [semSignalWord, semWaitWord, smemLoad, smemLoadElt, Prog.lift, Prog.bind_op, Prog.bind_ret, Prog.pure_eq_ret, wp_deviceId]
  iintro ⟨#HR, #HL, HO, ⟨Hrct, Hrat⟩, ⟨Hrcf, Hraf⟩, Hdt3, ⟨Hkt1, Hkt2⟩⟩ Hk
  iapply (ring_wait_r m K c true 1 2 (by decide) (slot_credit true 2)) $$ [HO Hrct Hrat]
  · isplitr; · iexact HR
    isplitr; · iexact HL
    isplitl [HO]; · iexact HO
    isplitl [Hrct]; · iexact Hrct
    iexact Hrat
  iintro ⟨HO, Hzrt1, Hct2⟩
  iapply (ring_send m K c true 2 ⟨k0_dev7 c, k0_dev7_lt c⟩ (dev7_eq c) 1 rfl rfl) $$ [HO Hct2 Hdt3 Hkt1 Hkt2]
  · isplitr; · iexact HR
    isplitl [HO]; · iexact HO
    isplitl [Hct2]; · iexact Hct2
    isplitl [Hdt3]; · iexact Hdt3
    isplitl [Hkt1]; · iexact Hkt1
    iexact Hkt2
  iintro ⟨HO, Hrt2, Hcrt2⟩
  iapply (ring_wait_r m K c false 1 1 (by decide) (slot_credit false 2)) $$ [HO Hrcf Hraf]
  · isplitr; · iexact HR
    isplitr; · iexact HL
    isplitl [HO]; · iexact HO
    isplitl [Hrcf]; · iexact Hrcf
    iexact Hraf
  iintro ⟨HO, Hzrf1, Hcf2⟩
  rw [wp_ret]
  imodintro
  iapply Hk
  isplitl [HO]; · iexact HO
  isplitl [Hzrt1]; · iexact Hzrt1
  isplitl [Hrt2]; · iexact Hrt2
  isplitl [Hcrt2]; · iexact Hcrt2
  isplitl [Hzrf1]; · iexact Hzrf1
  iexact Hcf2

/-- And in the other; the second hop's blocks. -/
theorem part12 (v2 : BitVec 32) {Q : FVec F S512x2048 .bf16 → sProp (MT nD τ sig Unit (Elt F) ℕ UU ℕ)} :
    iprop(recs m K ∗ Ow (F := F) c 1 ∗ slot false 2 c fullShare (xs m false 2 c) ∗ anySlot (F := F) false 3 (step false c) ∗ SendTok (F := F) c false 2 ∗ rgt m c true 2 ∗ W8 m c 8 ∗ OutR m c [(false, ((step (!false))^[1] c)), (true, ((step (!true))^[1] c)), (false, ((step (!false))^[0] c)), (true, ((step (!true))^[0] c))])
      ⊢ iprop(((Ow (F := F) c 0 ∗ rgt m c false 2 ∗ CrS (F := F) c false 2 ∗ rgt m c true 2 ∗ W8 m c 8 ∗ OutR m c [(true, ((step (!true))^[2] c)), (false, ((step (!false))^[1] c)), (true, ((step (!true))^[1] c)), (false, ((step (!false))^[0] c)), (true, ((step (!true))^[0] c))]) -∗ Q (blk (scl m c) (xs m false ((2 : Fin 3) : ℕ) c) (w8 m c)))
        -∗ wp frame (wpE (defs₀ (F := F)) 𝒱₀ (c : Thread nD τ) none) Set.univ
          (k0_part12 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 (scl m c)) Q) := by
  rw [k0_part12_eq_skeleton]
  unfold k0_part12_skel
  simp only [semSignalWord, semWaitWord, smemLoad, smemLoadElt, Prog.lift, Prog.bind_op, Prog.bind_ret, Prog.pure_eq_ret, wp_deviceId]
  iintro ⟨#HR, HO, Hcf2, Hdf3, ⟨Hkf1, Hkf2⟩, Hrt2, Hw8, Hout⟩ Hk
  iapply (ring_send m K c false 2 ⟨k0_dev8 c, k0_dev8_lt c⟩ (dev8_eq c) 0 rfl rfl) $$ [HO Hcf2 Hdf3 Hkf1 Hkf2]
  · isplitr; · iexact HR
    isplitl [HO]; · iexact HO
    isplitl [Hcf2]; · iexact Hcf2
    isplitl [Hdf3]; · iexact Hdf3
    isplitl [Hkf1]; · iexact Hkf1
    iexact Hkf2
  iintro ⟨HO, Hrf2, Hcrf2⟩
  iapply (load_slot 𝒱₀ (c : Thread nD τ) none) $$ Hrt2
  iintro Hrt2
  iapply (w8_get m c) $$ Hw8
  iintro Hw8
  iapply (out_peek m c [(false, ((step (!false))^[1] c)), (true, ((step (!true))^[1] c)), (false, ((step (!false))^[0] c)), (true, ((step (!true))^[0] c))]) $$ Hout
  iintro %v Hout
  iapply (out_put m c [(false, ((step (!false))^[1] c)), (true, ((step (!true))^[1] c)), (false, ((step (!false))^[0] c)), (true, ((step (!true))^[0] c))] true (((step (!true))^[2] c)) (off4_at2 c) (pay18_slot _ _ _ _)) $$ Hout
  iintro Hout
  iapply (load_slot 𝒱₀ (c : Thread nD τ) none) $$ Hrf2
  iintro Hrf2
  iapply (w8_get m c) $$ Hw8
  iintro Hw8
  iapply (out_peek m c [(true, ((step (!true))^[2] c)), (false, ((step (!false))^[1] c)), (true, ((step (!true))^[1] c)), (false, ((step (!false))^[0] c)), (true, ((step (!true))^[0] c))]) $$ Hout
  iintro %v Hout
  erw [pay19_slot]
  rw [wp_ret]
  imodintro
  iapply Hk
  isplitl [HO]; · iexact HO
  isplitl [Hrf2]; · iexact Hrf2
  isplitl [Hcrf2]; · iexact Hcrf2
  isplitl [Hrt2]; · iexact Hrt2
  isplitl [Hw8]; · iexact Hw8
  iexact Hout

/-- The last hop received. -/
theorem part13 (v2 v4 v6 : BitVec 32) {Q : (Σ' (v356 : BitVec 32) (v359 : BitVec 32) (v363 : FVec F S512x2048 .f32), FVec F S512x2048 .f32) → sProp (MT nD τ sig Unit (Elt F) ℕ UU ℕ)} :
    iprop(recs m K ∗ levAts L lv ∗ Ow (F := F) c 0 ∗ OutR m c [(true, ((step (!true))^[2] c)), (false, ((step (!false))^[1] c)), (true, ((step (!true))^[1] c)), (false, ((step (!false))^[0] c)), (true, ((step (!true))^[0] c))] ∗ RecvTok (F := F) c true 2 ∗ RecvTok (F := F) c false 2 ∗ W8 m c 8)
      ⊢ iprop((∀ v356 v359, (Ow (F := F) c 0 ∗ OutR m c [(false, ((step (!false))^[2] c)), (true, ((step (!true))^[2] c)), (false, ((step (!false))^[1] c)), (true, ((step (!true))^[1] c)), (false, ((step (!false))^[0] c)), (true, ((step (!true))^[0] c))] ∗ zr (F := F) c true 2 ∗ zr (F := F) c false 2 ∗ slot true 3 c fullShare (xs m true 3 c) ∗ slot false 3 c fullShare (xs m false 3 c) ∗ W8 m c 8) -∗ Q ⟨v356, v359, mm (xs m true (((2 : Fin 3) : ℕ) + 1) c) (w8 m c), k0_pay21 (scl m c)⟩)
        -∗ wp frame (wpE (defs₀ (F := F)) 𝒱₀ (c : Thread nD τ) none) Set.univ
          (k0_part13 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 v4 v6 (scl m c) (blk (scl m c) (xs m false ((2 : Fin 3) : ℕ) c) (w8 m c))) Q) := by
  rw [k0_part13_eq_skeleton]
  unfold k0_part13_skel
  simp only [semSignalWord, semWaitWord, smemLoad, smemLoadElt, Prog.lift, Prog.bind_op, Prog.bind_ret, Prog.pure_eq_ret, wp_deviceId]
  iintro ⟨#HR, #HL, HO, Hout, ⟨Hrct, Hrat⟩, ⟨Hrcf, Hraf⟩, Hw8⟩ Hk
  iapply (out_put m c [(true, ((step (!true))^[2] c)), (false, ((step (!false))^[1] c)), (true, ((step (!true))^[1] c)), (false, ((step (!false))^[0] c)), (true, ((step (!true))^[0] c))] false (((step (!false))^[2] c)) (off5_at2 c) (rfl)) $$ Hout
  iintro Hout
  iapply (ring_wait_r m K c true 2 0 (by decide) (slot_credit true 3)) $$ [HO Hrct Hrat]
  · isplitr; · iexact HR
    isplitr; · iexact HL
    isplitl [HO]; · iexact HO
    isplitl [Hrct]; · iexact Hrct
    iexact Hrat
  iintro ⟨HO, Hzrt2, Hct3⟩
  iapply (ring_wait_r m K c false 2 0 (by decide) (slot_credit false 3)) $$ [HO Hrcf Hraf]
  · isplitr; · iexact HR
    isplitr; · iexact HL
    isplitl [HO]; · iexact HO
    isplitl [Hrcf]; · iexact Hrcf
    iexact Hraf
  iintro ⟨HO, Hzrf2, Hcf3⟩
  iapply (load_slot 𝒱₀ (c : Thread nD τ) none) $$ Hct3
  iintro Hct3
  iapply (w8_get m c) $$ Hw8
  iintro Hw8
  erw [pay20_slot]
  rw [wp_ret]
  imodintro
  iapply Hk
  isplitl [HO]; · iexact HO
  isplitl [Hout]; · iexact Hout
  isplitl [Hzrt2]; · iexact Hzrt2
  isplitl [Hzrf2]; · iexact Hzrf2
  isplitl [Hct3]; · iexact Hct3
  isplitl [Hcf3]; · iexact Hcf3
  iexact Hw8

/-- Its blocks; the first copy waited out. -/
theorem part14 (v356 v359 : BitVec 32) {Q : PUnit → sProp (MT nD τ sig Unit (Elt F) ℕ UU ℕ)} :
    iprop(recs m K ∗ levAts L lv ∗ Ow (F := F) c 0 ∗ OutR m c [(false, ((step (!false))^[2] c)), (true, ((step (!true))^[2] c)), (false, ((step (!false))^[1] c)), (true, ((step (!true))^[1] c)), (false, ((step (!false))^[0] c)), (true, ((step (!true))^[0] c))] ∗ slot false 3 c fullShare (xs m false 3 c) ∗ W8 m c 8 ∗ CrS (F := F) c true 0 ∗ AtS (F := F) c true 0)
      ⊢ iprop(((Ow (F := F) c 0 ∗ OutR m c [(false, ((step (!false))^[3] c)), (true, ((step (!true))^[3] c)), (false, ((step (!false))^[2] c)), (true, ((step (!true))^[2] c)), (false, ((step (!false))^[1] c)), (true, ((step (!true))^[1] c)), (false, ((step (!false))^[0] c)), (true, ((step (!true))^[0] c))] ∗ slot false 3 c fullShare (xs m false 3 c) ∗ W8 m c 8 ∗ zs (F := F) c true 0 ∗ lft m c true 0) -∗ Q ⟨⟩)
        -∗ wp frame (wpE (defs₀ (F := F)) 𝒱₀ (c : Thread nD τ) none) Set.univ
          (k0_part14 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c (scl m c) v356 v359 (mm (xs m true (((2 : Fin 3) : ℕ) + 1) c) (w8 m c)) (k0_pay21 (scl m c))) Q) := by
  rw [k0_part14_eq_skeleton]
  unfold k0_part14_skel
  simp only [semSignalWord, semWaitWord, smemLoad, smemLoadElt, Prog.lift, Prog.bind_op, Prog.bind_ret, Prog.pure_eq_ret, wp_deviceId]
  iintro ⟨#HR, #HL, HO, Hout, Hcf3, Hw8, Hcrt0, Hast0⟩ Hk
  iapply (out_peek m c [(false, ((step (!false))^[2] c)), (true, ((step (!true))^[2] c)), (false, ((step (!false))^[1] c)), (true, ((step (!true))^[1] c)), (false, ((step (!false))^[0] c)), (true, ((step (!true))^[0] c))]) $$ Hout
  iintro %v Hout
  iapply (out_put m c [(false, ((step (!false))^[2] c)), (true, ((step (!true))^[2] c)), (false, ((step (!false))^[1] c)), (true, ((step (!true))^[1] c)), (false, ((step (!false))^[0] c)), (true, ((step (!true))^[0] c))] true (((step (!true))^[3] c)) (off4_at3 c) (pay22_mm _ _ _)) $$ Hout
  iintro Hout
  iapply (load_slot 𝒱₀ (c : Thread nD τ) none) $$ Hcf3
  iintro Hcf3
  iapply (w8_get m c) $$ Hw8
  iintro Hw8
  iapply (out_peek m c [(true, ((step (!true))^[3] c)), (false, ((step (!false))^[2] c)), (true, ((step (!true))^[2] c)), (false, ((step (!false))^[1] c)), (true, ((step (!true))^[1] c)), (false, ((step (!false))^[0] c)), (true, ((step (!true))^[0] c))]) $$ Hout
  iintro %v Hout
  iapply (out_put m c [(true, ((step (!true))^[3] c)), (false, ((step (!false))^[2] c)), (true, ((step (!true))^[2] c)), (false, ((step (!false))^[1] c)), (true, ((step (!true))^[1] c)), (false, ((step (!false))^[0] c)), (true, ((step (!true))^[0] c))] false (((step (!false))^[3] c)) (off5_at3 c) (pay23_slot _ _ _ _)) $$ Hout
  iintro Hout
  iapply (ring_wait_s m K c true 0 0 (by decide) (slot_credit true 0)) $$ [HO Hcrt0 Hast0]
  · isplitr; · iexact HR
    isplitr; · iexact HL
    isplitl [HO]; · iexact HO
    isplitl [Hcrt0]; · iexact Hcrt0
    iexact Hast0
  iintro ⟨HO, Hzst0, Hlt0⟩
  rw [wp_ret]
  imodintro
  iapply Hk
  isplitl [HO]; · iexact HO
  isplitl [Hout]; · iexact Hout
  isplitl [Hcf3]; · iexact Hcf3
  isplitl [Hw8]; · iexact Hw8
  isplitl [Hzst0]; · iexact Hzst0
  iexact Hlt0

/-- The other copies waited out, all but the last. -/
theorem part15 {Q : PUnit → sProp (MT nD τ sig Unit (Elt F) ℕ UU ℕ)} :
    iprop(recs m K ∗ levAts L lv ∗ Ow (F := F) c 0 ∗ CrS (F := F) c false 0 ∗ AtS (F := F) c false 0 ∗ CrS (F := F) c true 1 ∗ AtS (F := F) c true 1 ∗ CrS (F := F) c false 1 ∗ AtS (F := F) c false 1 ∗ CrS (F := F) c true 2 ∗ AtS (F := F) c true 2)
      ⊢ iprop(((Ow (F := F) c 0 ∗ zs (F := F) c false 0 ∗ lft m c false 0 ∗ zs (F := F) c true 1 ∗ lft m c true 1 ∗ zs (F := F) c false 1 ∗ lft m c false 1 ∗ zs (F := F) c true 2 ∗ lft m c true 2) -∗ Q ⟨⟩)
        -∗ wp frame (wpE (defs₀ (F := F)) 𝒱₀ (c : Thread nD τ) none) Set.univ
          (k0_part15 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10) Q) := by
  rw [k0_part15_eq_skeleton]
  unfold k0_part15_skel
  simp only [semSignalWord, semWaitWord, smemLoad, smemLoadElt, Prog.lift, Prog.bind_op, Prog.bind_ret, Prog.pure_eq_ret, wp_deviceId]
  iintro ⟨#HR, #HL, HO, Hcrf0, Hasf0, Hcrt1, Hast1, Hcrf1, Hasf1, Hcrt2, Hast2⟩ Hk
  iapply (ring_wait_s m K c false 0 0 (by decide) (slot_credit false 0)) $$ [HO Hcrf0 Hasf0]
  · isplitr; · iexact HR
    isplitr; · iexact HL
    isplitl [HO]; · iexact HO
    isplitl [Hcrf0]; · iexact Hcrf0
    iexact Hasf0
  iintro ⟨HO, Hzsf0, Hlf0⟩
  iapply (ring_wait_s m K c true 1 0 (by decide) (slot_credit true 1)) $$ [HO Hcrt1 Hast1]
  · isplitr; · iexact HR
    isplitr; · iexact HL
    isplitl [HO]; · iexact HO
    isplitl [Hcrt1]; · iexact Hcrt1
    iexact Hast1
  iintro ⟨HO, Hzst1, Hlt1⟩
  iapply (ring_wait_s m K c false 1 0 (by decide) (slot_credit false 1)) $$ [HO Hcrf1 Hasf1]
  · isplitr; · iexact HR
    isplitr; · iexact HL
    isplitl [HO]; · iexact HO
    isplitl [Hcrf1]; · iexact Hcrf1
    iexact Hasf1
  iintro ⟨HO, Hzsf1, Hlf1⟩
  iapply (ring_wait_s m K c true 2 0 (by decide) (slot_credit true 2)) $$ [HO Hcrt2 Hast2]
  · isplitr; · iexact HR
    isplitr; · iexact HL
    isplitl [HO]; · iexact HO
    isplitl [Hcrt2]; · iexact Hcrt2
    iexact Hast2
  iintro ⟨HO, Hzst2, Hlt2⟩
  rw [wp_ret]
  imodintro
  iapply Hk
  isplitl [HO]; · iexact HO
  isplitl [Hzsf0]; · iexact Hzsf0
  isplitl [Hlf0]; · iexact Hlf0
  isplitl [Hzst1]; · iexact Hzst1
  isplitl [Hlt1]; · iexact Hlt1
  isplitl [Hzsf1]; · iexact Hzsf1
  isplitl [Hlf1]; · iexact Hlf1
  isplitl [Hzst2]; · iexact Hzst2
  iexact Hlt2

end Cert.KernelIdeal.Ring
-- ==== Proof.Body.lean ====
/-
The whole body on one device: from what the launch deals it, to the result in place and everything back.
-/
module

public import proofs.«01_k».proof.Proof.BodyA
public import proofs.«01_k».proof.Proof.BodyB
public import proofs.«01_k».proof.Proof.BodyC

@[expose] public section

noncomputable section

namespace Cert.KernelIdeal.Ring

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- A hop's share of the protocol, as dealt. -/
abbrev Hop (c : Dev nD) (d : Bool) (h : Fin 3) : sProp 𝕄 := iprop(SendTok (F := F) c d h ∗ RecvTok (F := F) c d h ∗ AtS (F := F) c d h)
/-- A hop's semaphores, spent. -/
abbrev HopZ (c : Dev nD) (d : Bool) (h : Fin 3) : sProp 𝕄 := iprop(zs (F := F) c d h ∗ zr (F := F) c d h)

theorem w8_any (n : ℕ) : W8 m c n ⊢ iprop(∃ X, owns (c : Thread nD τ) (Memref.whole cc0_scratch2) fullShare X) := by
  unfold W8
  iintro ⟨%X, -, H⟩
  iexists X
  iexact H

theorem all_keys (d : Bool) (o : Dev nD) : (d, o) ∈ ([(false, ((step (!false))^[3] c)), (true, ((step (!true))^[3] c)), (false, ((step (!false))^[2] c)), (true, ((step (!true))^[2] c)), (false, ((step (!false))^[1] c)), (true, ((step (!true))^[1] c)), (false, ((step (!false))^[0] c)), (true, ((step (!true))^[0] c))] : List (Bool × Dev nD)) := by revert c d o; decide

theorem out_full : OutR m c [(false, ((step (!false))^[3] c)), (true, ((step (!true))^[3] c)), (false, ((step (!false))^[2] c)), (true, ((step (!true))^[2] c)), (false, ((step (!false))^[1] c)), (true, ((step (!true))^[1] c)), (false, ((step (!false))^[0] c)), (true, ((step (!true))^[0] c))] ⊢ owns (c : Thread nD τ) (Memref.whole cc0_stg2_0) fullShare (outT m c) := by
  unfold OutR
  iintro ⟨%X, %hX, H⟩
  have e := rows_all m c hX (all_keys c)
  subst e
  iexact H

theorem out_none : iprop(∃ X, owns (c : Thread nD τ) (Memref.whole cc0_stg2_0) fullShare X) ⊢ OutR m c [] := by
  unfold OutR
  iintro ⟨%X, H⟩
  iexists X
  isplitr; · ipureintro; exact rows_nil m c X
  iexact H

theorem w8_none : iprop(∃ X, owns (c : Thread nD τ) (Memref.whole cc0_scratch2) fullShare X) ⊢ W8 m c 0 := by
  unfold W8
  iintro ⟨%X, H⟩
  iexists X
  isplitr; · ipureintro; exact cols_zero m c X
  iexact H

/-- The device's memory: its arguments as launched, every buffer of the kernel's at some contents. -/
def MemSt : sProp 𝕄 :=
  iprop(XA m c ∗ (∃ X, XS (F := F) c X) ∗ WA m c 0 ∗ WA m c 1 ∗ (∃ X, WS (F := F) c 0 X) ∗ (∃ X, WS (F := F) c 1 X) ∗ (∃ X, owns (c : Thread nD τ) (Memref.whole cc0_scratch2) fullShare X) ∗ anySlot (F := F) true 0 c ∗ land (F := F) true c ∗ anySlot (F := F) false 0 c ∗ land (F := F) false c)
/-- The semaphores of the local copies at zero. -/
def LocZ : sProp 𝕄 := iprop(zx (F := F) c ∗ zw (F := F) c 0 ∗ zw (F := F) c 1)
/-- What the protocol deals a device: the tokens of what it pays, the credit for what it waits for, its positions. -/
def Prot : sProp 𝕄 :=
  iprop(dutyTok ER (barCell (step false c)) 0 true ∗ dutyTok ER (barCell (step true c)) 0 false ∗ cred (tallyAt (barCell c) () 2) ∗ atPos ER (barCell c) 0 ∅ 0 ∗ Hop (F := F) c true 0 ∗ Hop (F := F) c true 1 ∗ Hop (F := F) c true 2 ∗ Hop (F := F) c false 0 ∗ Hop (F := F) c false 1 ∗ Hop (F := F) c false 2)
/-- The protocol's semaphores, spent. -/
def ProtZ : sProp 𝕄 :=
  iprop(semVal (barCell c) 0 ∗ HopZ (F := F) c true 0 ∗ HopZ (F := F) c true 1 ∗ HopZ (F := F) c true 2 ∗ HopZ (F := F) c false 0 ∗ HopZ (F := F) c false 1 ∗ HopZ (F := F) c false 2)

/-- What the body needs on device `c`. -/
def BodyPre : sProp 𝕄 :=
  iprop(Ow (F := F) c 8 ∗ owns (c : Thread nD τ) (Memref.whole cc0_stg0_0) fullShare (m ((c : Thread nD τ).loc main_arg2) : S1.Idx → Elt F .f32) ∗ owns (c : Thread nD τ) (Memref.whole cc0_stg1_0) fullShare (m ((c : Thread nD τ).loc main_arg3) : S1.Idx → Elt F .f32) ∗ (∃ X, owns (c : Thread nD τ) (Memref.whole cc0_stg2_0) fullShare X) ∗ recs m K ∗ levAts L lv ∗ MemSt m c ∗ LocZ (F := F) c ∗ Prot (F := F) c)
/-- What it leaves. -/
def BodyPost : sProp 𝕄 :=
  iprop(Ow (F := F) c 0 ∗ owns (c : Thread nD τ) (Memref.whole cc0_stg0_0) fullShare (m ((c : Thread nD τ).loc main_arg2) : S1.Idx → Elt F .f32) ∗ owns (c : Thread nD τ) (Memref.whole cc0_stg1_0) fullShare (m ((c : Thread nD τ).loc main_arg3) : S1.Idx → Elt F .f32) ∗ owns (c : Thread nD τ) (Memref.whole cc0_stg2_0) fullShare (outT m c) ∗ MemSt m c ∗ LocZ (F := F) c ∗ ProtZ (F := F) c)

set_option maxHeartbeats 1600000 in
theorem body_run {Q : PUnit → sProp (MT nD τ sig Unit (Elt F) ℕ UU ℕ)} :
    BodyPre m K c
      ⊢ iprop((BodyPost m c -∗ Q ⟨⟩)
        -∗ wp frame (wpE (defs₀ (F := F)) 𝒱₀ (c : Thread nD τ) none) Set.univ
          (cc0_body (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10) Q) := by
  rw [cc0_body_eq_skeleton]
  unfold cc0_body_skel BodyPre BodyPost MemSt LocZ Prot ProtZ
  simp only [wp_bind, Prog.lift, Prog.bind_op, Prog.bind_ret, Prog.pure_eq_ret]
  iintro ⟨H1, H2, H3, Hout0, #HR, #HL, ⟨H5, H6, H7, H8, H9, H10, Hw0, H12, H13, H14, H15⟩, ⟨H16, H17, H18⟩, ⟨H19, H20, H21, H22, ⟨H23, H24, H25⟩, ⟨H26, H27, H28⟩, ⟨H29, H30, H31⟩, ⟨H32, H33, H34⟩, ⟨H35, H36, H37⟩, ⟨H38, H39, H40⟩⟩⟩ Hk
  ihave H4 := (out_none m c) $$ Hout0
  ihave H11 := (w8_none m c) $$ Hw0
  iapply (part1 m K c ) $$ [H1 H5 H6 H16 H7 H8 H9 H10 H17 H18 H13 H15 H19 H20]
  · isplitr; · iexact HR
    isplitl [H1]; · iexact H1
    isplitl [H5]; · iexact H5
    isplitl [H6]; · iexact H6
    isplitl [H16]; · iexact H16
    isplitl [H7]; · iexact H7
    isplitl [H8]; · iexact H8
    isplitl [H9]; · iexact H9
    isplitl [H10]; · iexact H10
    isplitl [H17]; · iexact H17
    isplitl [H18]; · iexact H18
    isplitl [H13]; · iexact H13
    isplitl [H15]; · iexact H15
    isplitl [H19]; · iexact H19
    iexact H20
  iintro %v2 %v4 %v6 %v7 ⟨H41, H42, H43, H44⟩
  dsimp only
  -- part 2
  iapply (part2 m K c v6) $$ [H41 H21 H22 H2 H3 H42 H12 H14 H23]
  · isplitr; · iexact HR
    isplitr; · iexact HL
    isplitl [H41]; · iexact H41
    isplitl [H21]; · iexact H21
    isplitl [H22]; · iexact H22
    isplitl [H2]; · iexact H2
    isplitl [H3]; · iexact H3
    isplitl [H42]; · iexact H42
    isplitl [H12]; · iexact H12
    isplitl [H14]; · iexact H14
    iexact H23
  iintro ⟨H45, H46, H47, H48, H49, H50, H51, H52, H53, H54, H55, H56, H57⟩
  dsimp only
  -- part 3
  iapply (part3 m K c v4 v7) $$ [H45 H55 H47 H32 H43 H11]
  · isplitr; · iexact HR
    isplitr; · iexact HL
    isplitl [H45]; · iexact H45
    isplitl [H55]; · iexact H55
    isplitl [H47]; · iexact H47
    isplitl [H32]; · iexact H32
    isplitl [H43]; · iexact H43
    iexact H11
  iintro ⟨H58, H59, H60, H61, H62, H63, H64, H65, H66⟩
  -- part 4
  iapply (part4 m c v7) $$ [H58 H63 H64 H65 H44 H66]
  · isplitr; · iexact HL
    isplitl [H58]; · iexact H58
    isplitl [H63]; · iexact H63
    isplitl [H64]; · iexact H64
    isplitl [H65]; · iexact H65
    isplitl [H44]; · iexact H44
    iexact H66
  iintro ⟨H67, H68, H69, H70, H71, H72⟩
  -- part 5
  iapply (part5 m c v7) $$ [H67 H68 H69 H70 H71 H72]
  · isplitr; · iexact HL
    isplitl [H67]; · iexact H67
    isplitl [H68]; · iexact H68
    isplitl [H69]; · iexact H69
    isplitl [H70]; · iexact H70
    isplitl [H71]; · iexact H71
    iexact H72
  iintro ⟨H73, H74, H75, H76⟩
  -- part 6
  iapply (part6 m c v7) $$ [H73 H74 H75 H76]
  · isplitr; · iexact HL
    isplitl [H73]; · iexact H73
    isplitl [H74]; · iexact H74
    isplitl [H75]; · iexact H75
    iexact H76
  iintro ⟨H77, H78, H79, H80, H81, H82⟩
  -- part 7
  iapply (part7 m c v7) $$ [H77 H78 H79 H80 H81 H82]
  · isplitr; · iexact HL
    isplitl [H77]; · iexact H77
    isplitl [H78]; · iexact H78
    isplitl [H79]; · iexact H79
    isplitl [H80]; · iexact H80
    isplitl [H81]; · iexact H81
    iexact H82
  iintro ⟨H83, H84, H85, H86, H87, H88, H89, H90⟩
  -- part 8
  iapply (part8 m K c v2 v6) $$ [H83 H90 H56 H61 H4 H24]
  · isplitr; · iexact HR
    isplitr; · iexact HL
    isplitl [H83]; · iexact H83
    isplitl [H90]; · iexact H90
    isplitl [H56]; · iexact H56
    isplitl [H61]; · iexact H61
    isplitl [H4]; · iexact H4
    iexact H24
  iintro ⟨H91, H92, H93, H94, H95, H96, H97⟩
  -- part 9
  iapply (part9 m K c v4 v6) $$ [H91 H97 H48 H26 H33]
  · isplitr; · iexact HR
    isplitr; · iexact HL
    isplitl [H91]; · iexact H91
    isplitl [H97]; · iexact H97
    isplitl [H48]; · iexact H48
    isplitl [H26]; · iexact H26
    iexact H33
  iintro ⟨H98, H99, H100, H101, H102⟩
  -- part 10
  iapply (part10 m K c v2 v6) $$ [H98 H102 H59 H35 H99 H92 H95]
  · isplitr; · iexact HR
    isplitl [H98]; · iexact H98
    isplitl [H102]; · iexact H102
    isplitl [H59]; · iexact H59
    isplitl [H35]; · iexact H35
    isplitl [H99]; · iexact H99
    isplitl [H92]; · iexact H92
    iexact H95
  iintro ⟨H103, H104, H105, H106, H107, H108⟩
  -- part 11
  iapply (part11 m K c v4 v6) $$ [H103 H27 H36 H49 H29]
  · isplitr; · iexact HR
    isplitr; · iexact HL
    isplitl [H103]; · iexact H103
    isplitl [H27]; · iexact H27
    isplitl [H36]; · iexact H36
    isplitl [H49]; · iexact H49
    iexact H29
  iintro ⟨H109, H110, H111, H112, H113, H114⟩
  -- part 12
  iapply (part12 m K c v2) $$ [H109 H114 H60 H38 H111 H107 H108]
  · isplitr; · iexact HR
    isplitl [H109]; · iexact H109
    isplitl [H114]; · iexact H114
    isplitl [H60]; · iexact H60
    isplitl [H38]; · iexact H38
    isplitl [H111]; · iexact H111
    isplitl [H107]; · iexact H107
    iexact H108
  iintro ⟨H115, H116, H117, H118, H119, H120⟩
  -- part 13
  iapply (part13 m K c v2 v4 v6) $$ [H115 H120 H30 H39 H119]
  · isplitr; · iexact HR
    isplitr; · iexact HL
    isplitl [H115]; · iexact H115
    isplitl [H120]; · iexact H120
    isplitl [H30]; · iexact H30
    isplitl [H39]; · iexact H39
    iexact H119
  iintro %v356 %v359 ⟨H121, H122, H123, H124, H125, H126, H127⟩
  dsimp only
  -- part 14
  iapply (part14 m K c v356 v359) $$ [H121 H122 H126 H127 H57 H25]
  · isplitr; · iexact HR
    isplitr; · iexact HL
    isplitl [H121]; · iexact H121
    isplitl [H122]; · iexact H122
    isplitl [H126]; · iexact H126
    isplitl [H127]; · iexact H127
    isplitl [H57]; · iexact H57
    iexact H25
  iintro ⟨H128, H129, H130, H131, H132, H133⟩
  -- part 15
  iapply (part15 m K c ) $$ [H128 H62 H34 H100 H28 H105 H37 H112 H31]
  · isplitr; · iexact HR
    isplitr; · iexact HL
    isplitl [H128]; · iexact H128
    isplitl [H62]; · iexact H62
    isplitl [H34]; · iexact H34
    isplitl [H100]; · iexact H100
    isplitl [H28]; · iexact H28
    isplitl [H105]; · iexact H105
    isplitl [H37]; · iexact H37
    isplitl [H112]; · iexact H112
    iexact H31
  iintro ⟨H134, H135, H136, H137, H138, H139, H140, H141, H142⟩
  iapply (ring_wait_s m K c false 2 0 (by decide) (slot_credit false 2)) $$ [H134 H117 H40]
  · isplitr; · iexact HR
    isplitr; · iexact HL
    isplitl [H134]; · iexact H134
    isplitl [H117]; · iexact H117
    iexact H40
  iintro ⟨HO, Hz, Hl⟩
  rw [wp_ret]
  imodintro
  iapply Hk
  isplitl [HO]; · iexact HO
  isplitl [H50]; · iexact H50
  isplitl [H51]; · iexact H51
  isplitl [H129]; · iapply (out_full m c); iexact H129
  isplitl [H52 H53 H84 H87 H85 H88 H131 H133 H93 H138 H106 H142 H118 H125 H136 H94 H140 H104 Hl H116 H130]
  · isplitl [H52]; · iexact H52
    isplitl [H53]; · iexact H53
    isplitl [H84]; · iexact H84
    isplitl [H87]; · iexact H87
    isplitl [H85]; · iexact H85
    isplitl [H88]; · iexact H88
    isplitl [H131]; · iapply (w8_any m c 8); iexact H131
    isplitl [H133 H93]; · iapply (lft_rgt m c true 0); isplitl [H133] <;> iassumption
    isplitl [H138 H106 H142 H118 H125]; · unfold land; (isplitl [H138 H106]; · iapply (lft_rgt m c true 1); isplitl [H138] <;> iassumption); (isplitl [H142 H118]; · iapply (lft_rgt m c true 2); isplitl [H142] <;> iassumption); iexists _; iexact H125
    isplitl [H136 H94]; · iapply (lft_rgt m c false 0); isplitl [H136] <;> iassumption
    unfold land; (isplitl [H140 H104]; · iapply (lft_rgt m c false 1); isplitl [H140] <;> iassumption); (isplitl [Hl H116]; · iapply (lft_rgt m c false 2); isplitl [Hl] <;> iassumption); iexists _; iexact H130
  isplitl [H54 H86 H89]
  · isplitl [H54]; · iexact H54
    isplitl [H86]; · iexact H86
    iexact H89
  isplitl [H46]; · iexact H46
  isplitl [H132 H96]; · isplitl [H132] <;> iassumption
  isplitl [H137 H110]; · isplitl [H137] <;> iassumption
  isplitl [H141 H123]; · isplitl [H141] <;> iassumption
  isplitl [H135 H101]; · isplitl [H135] <;> iassumption
  isplitl [H139 H113]; · isplitl [H139] <;> iassumption
  isplitl [Hz] <;> iassumption

end Cert.KernelIdeal.Ring
-- ==== Proof.Deal.lean ====
/-
What the launch deals the devices: the cells' invariants, the positions, every duty's token to the device that pays it,
and the credit each device waits with.
-/
module

public import proofs.«01_k».proof.Proof.Body
public import proofs.«01_k».proof.Proof.Gen.KernelIdeal.Launch
@[expose] public section

noncomputable section

namespace Cert.KernelIdeal.Ring

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Lists of a device's cells, tokens and awaited credits -/

theorem chain_CI (Φ : CI → sProp 𝕄) : bigSep Finset.univ Φ
    = iprop(Φ (none) ∗ Φ (some (true, false, 0)) ∗ Φ (some (true, false, 1)) ∗ Φ (some (true, false, 2)) ∗ Φ (some (true, true, 0)) ∗ Φ (some (true, true, 1)) ∗ Φ (some (true, true, 2)) ∗ Φ (some (false, false, 0)) ∗ Φ (some (false, false, 1)) ∗ Φ (some (false, false, 2)) ∗ Φ (some (false, true, 0)) ∗ Φ (some (false, true, 1)) ∗ Φ (some (false, true, 2))) :=
  bigSep_univ_eq_bigSepL [none, some (true, false, 0), some (true, false, 1), some (true, false, 2), some (true, true, 0), some (true, true, 1), some (true, true, 2), some (false, false, 0), some (false, false, 1), some (false, false, 2), some (false, true, 0), some (false, true, 1), some (false, true, 2)] (by decide) (by decide) Φ

/-- A device's tokens as minted: its barrier cell's two, one of each of its send and receive cells. -/
abbrev TI : Type := Bool ⊕ (Bool × Bool × Fin 3)

theorem chain_TI (Φ : TI → sProp 𝕄) : bigSep Finset.univ Φ
    = iprop(Φ (Sum.inl true) ∗ Φ (Sum.inl false) ∗ Φ (Sum.inr (true, false, 0)) ∗ Φ (Sum.inr (true, false, 1)) ∗ Φ (Sum.inr (true, false, 2)) ∗ Φ (Sum.inr (true, true, 0)) ∗ Φ (Sum.inr (true, true, 1)) ∗ Φ (Sum.inr (true, true, 2)) ∗ Φ (Sum.inr (false, false, 0)) ∗ Φ (Sum.inr (false, false, 1)) ∗ Φ (Sum.inr (false, false, 2)) ∗ Φ (Sum.inr (false, true, 0)) ∗ Φ (Sum.inr (false, true, 1)) ∗ Φ (Sum.inr (false, true, 2))) :=
  bigSep_univ_eq_bigSepL [Sum.inl true, Sum.inl false, Sum.inr (true, false, 0), Sum.inr (true, false, 1), Sum.inr (true, false, 2), Sum.inr (true, true, 0), Sum.inr (true, true, 1), Sum.inr (true, true, 2), Sum.inr (false, false, 0), Sum.inr (false, false, 1), Sum.inr (false, false, 2), Sum.inr (false, true, 0), Sum.inr (false, true, 1), Sum.inr (false, true, 2)] (by decide) (by decide) Φ

/-- The cells a device waits at with another's payment: its barrier and its receive cells. -/
abbrev RI : Type := Option (Bool × Fin 3)

theorem chain_RI (Φ : RI → sProp 𝕄) : bigSep Finset.univ Φ
    = iprop(Φ (none) ∗ Φ (some (true, 0)) ∗ Φ (some (true, 1)) ∗ Φ (some (true, 2)) ∗ Φ (some (false, 0)) ∗ Φ (some (false, 1)) ∗ Φ (some (false, 2))) :=
  bigSep_univ_eq_bigSepL [none, some (true, 0), some (true, 1), some (true, 2), some (false, 0), some (false, 1), some (false, 2)] (by decide) (by decide) Φ

/-! ## The semaphores -/

/-- The kernel's own semaphores, in the order of the program's table. -/
def osem (k : Fin 15) : SemLoc sig := .dma ⟨3 + k.val, by revert k; decide⟩

theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(zw (F := F) c 0 ∗ zw (F := F) c 1 ∗ zx (F := F) c ∗ zs (F := F) c true 0 ∗ zs (F := F) c true 1 ∗ zs (F := F) c true 2 ∗ zr (F := F) c true 0 ∗ zr (F := F) c true 1 ∗ zr (F := F) c true 2
        ∗ zs (F := F) c false 0 ∗ zs (F := F) c false 1 ∗ zs (F := F) c false 2 ∗ zr (F := F) c false 0 ∗ zr (F := F) c false 1 ∗ zr (F := F) c false 2) := by
  rw [Pipeline.ownSems0_eq_of_list c osem [0, 1, 2, 3, 4, 5, 6, 7, 8, 9, 10, 11, 12, 13, 14] (by decide) (by decide)]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop(LocZ (F := F) c ∗ bigSep Finset.univ fun k : CI => semVal (kcell (c, k)) 0) : sProp 𝕄) := by
  rw [ownSems0_eq, unscopedSems0_eq, chain_CI]
  unfold LocZ
  iintro ⟨⟨Hw0, Hw1, Hx, Hst0, Hst1, Hst2, Hrt0, Hrt1, Hrt2, Hsf0, Hsf1, Hsf2, Hrf0, Hrf1, Hrf2⟩, Hb⟩
  isplitl [Hx Hw0 Hw1]
  · isplitl [Hx]; · iexact Hx
    isplitl [Hw0]; · iexact Hw0
    iexact Hw1
  isplitl [Hb]; · iexact Hb
  isplitl [Hst0]; · iexact Hst0
  isplitl [Hst1]; · iexact Hst1
  isplitl [Hst2]; · iexact Hst2
  isplitl [Hrt0]; · iexact Hrt0
  isplitl [Hrt1]; · iexact Hrt1
  isplitl [Hrt2]; · iexact Hrt2
  isplitl [Hsf0]; · iexact Hsf0
  isplitl [Hsf1]; · iexact Hsf1
  isplitl [Hsf2]; · iexact Hsf2
  isplitl [Hrf0]; · iexact Hrf0
  isplitl [Hrf1]; · iexact Hrf1
  iexact Hrf2

theorem sems_back (c : Dev nD) : iprop(LocZ (F := F) c ∗ ProtZ (F := F) c)
    ⊢ (iprop(unscopedSems0 c ∗ Pipeline.ownSems0 (Ix := Unit) (Name := ℕ) (U := UU) (Lvl := ℕ) (Val := Elt F) (τ := τ) osem c) : sProp 𝕄) := by
  rw [ownSems0_eq, unscopedSems0_eq]
  unfold LocZ ProtZ
  iintro ⟨⟨Hx, Hw0, Hw1⟩, Hb, ⟨Hst0, Hrt0⟩, ⟨Hst1, Hrt1⟩, ⟨Hst2, Hrt2⟩, ⟨Hsf0, Hrf0⟩, ⟨Hsf1, Hrf1⟩, ⟨Hsf2, Hrf2⟩⟩
  isplitl [Hb]; · iexact Hb
  isplitl [Hw0]; · iexact Hw0
  isplitl [Hw1]; · iexact Hw1
  isplitl [Hx]; · iexact Hx
  isplitl [Hst0]; · iexact Hst0
  isplitl [Hst1]; · iexact Hst1
  isplitl [Hst2]; · iexact Hst2
  isplitl [Hrt0]; · iexact Hrt0
  isplitl [Hrt1]; · iexact Hrt1
  isplitl [Hrt2]; · iexact Hrt2
  isplitl [Hsf0]; · iexact Hsf0
  isplitl [Hsf1]; · iexact Hsf1
  isplitl [Hsf2]; · iexact Hsf2
  isplitl [Hrf0]; · iexact Hrf0
  isplitl [Hrf1]; · iexact Hrf1
  iexact Hrf2

/-! ## The tokens -/

theorem kcell_injective : Function.Injective (kcell : Dev nD × CI → GSem nD τ sig) := by
  rintro ⟨c, k⟩ ⟨c', k'⟩ h
  have h1 : c = c' := congrArg (fun g : GSem nD τ sig => g.1.1) h
  subst h1
  have h2 : csem k = csem k' := congrArg Prod.snd h
  have h3 : ∀ k k' : CI, csem k = csem k' → k = k' := by decide +kernel
  rw [h3 k k' h2]
def ringCells : Finset (GSem nD τ sig) := Finset.univ.map ⟨kcell, kcell_injective⟩

/-- Which cell a token is of, and which duty of it. -/
def tCI : TI → CI
  | .inl _ => none
  | .inr x => some x
def tDuty : TI → Bool
  | .inl b => b
  | .inr _ => false
def tokOf (ct : Dev nD × TI) : GSem nD τ sig × ℕ × Bool := (kcell (ct.1, tCI ct.2), 0, tDuty ct.2)
theorem tokOf_injective : Function.Injective (tokOf : Dev nD × TI → GSem nD τ sig × ℕ × Bool) := by
  rintro ⟨c, t⟩ ⟨c', t'⟩ h
  have h1 : (c, tCI t) = (c', tCI t') := kcell_injective (congrArg Prod.fst h)
  have h2 : tDuty t = tDuty t' := congrArg (fun x : GSem nD τ sig × ℕ × Bool => x.2.2) h
  have h3 : ∀ t t' : TI, tCI t = tCI t' → tDuty t = tDuty t' → t = t' := by decide +kernel
  rw [show c = c' from congrArg Prod.fst h1, h3 t t' (congrArg Prod.snd h1) h2]
def ringToks : Finset (GSem nD τ sig × ℕ × Bool) := Finset.univ.map ⟨tokOf, tokOf_injective⟩

def u₀ : UU := (initOf (Pipeline.cells cfgs cellOf_inj) (Pipeline.launchToks cfgs cellOf_inj), (initOf ringCells ringToks, 1))

/-- Device `c`'s own cells' tokens. -/
def toks (c : Dev nD) : sProp 𝕄 := bigSep Finset.univ fun t : TI => dutyTok ER (kcell (c, tCI t)) 0 (tDuty t)

/-- The ring, a step in a direction. -/
def stepE (d : Bool) : Dev nD ≃ Dev nD := ⟨step d, step (!d), step_not_step d, step_step_not d⟩
/-- The device whose cell the token is of that a device pays. -/
def payee : TI → (Dev nD ≃ Dev nD)
  | .inl b => stepE (!b)
  | .inr (d, true, _) => stepE d
  | .inr (_, false, _) => Equiv.refl _
/-- The tokens of what device `c` pays. -/
def payToks (c : Dev nD) : sProp 𝕄 := bigSep Finset.univ fun t : TI => dutyTok ER (kcell (payee t c, tCI t)) 0 (tDuty t)

def payeeE : Dev nD × TI ≃ Dev nD × TI where
  toFun x := (payee x.2 x.1, x.2)
  invFun x := ((payee x.2).symm x.1, x.2)
  left_inv x := Prod.ext ((payee x.2).symm_apply_apply x.1) rfl
  right_inv x := Prod.ext ((payee x.2).apply_symm_apply x.1) rfl

theorem toks_around : (bigSep Finset.univ fun c : Dev nD => (toks c : sProp 𝕄)) ⊢ bigSep Finset.univ fun c : Dev nD => payToks c := by
  unfold toks payToks
  rw [← bigSep_univ_prod (fun ct : Dev nD × TI => (dutyTok ER (kcell (ct.1, tCI ct.2)) 0 (tDuty ct.2) : sProp 𝕄)),
    ← bigSep_univ_prod (fun ct : Dev nD × TI => (dutyTok ER (kcell (payee ct.2 ct.1, tCI ct.2)) 0 (tDuty ct.2) : sProp 𝕄)),
    bigSep_univ_equiv payeeE]
  exact BI.Entails.refl _

/-! ## The launch element -/

/-- What the launch element deals device `c`. -/
def G (c : Dev nD) : sProp 𝕄 :=
  iprop((bigSep Finset.univ fun k : CI => roundState ER (ringRd m) (kcell (c, k)) 0)
    ∗ (bigSep Finset.univ fun k : CI => iprop(atPos ER (kcell (c, k)) 0 ∅ 0 ∗ reached ER (kcell (c, k)) 0)) ∗ toks c)

/-- What stays with it: its local semaphores at zero, its positions, the tokens of what it pays. -/
def own₀ (c : Dev nD) : sProp 𝕄 :=
  iprop(LocZ (F := F) c ∗ (bigSep Finset.univ fun k : CI => atPos ER (kcell (c, k)) 0 ∅ 0) ∗ payToks c)
/-- With every cell's invariant. -/
def G' (c : Dev nD) : sProp 𝕄 := iprop(∃ K, recs m K ∗ own₀ c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => reached ER (kcell (c, k)) 0)
          ∗ toks c ∗ LocZ (F := F) c ∗ (bigSep Finset.univ fun k => atPos ER (kcell (c, k)) 0 ∅ 0)) := by
  unfold G
  rw [bigSep_sep']
  iintro ⟨Hos, Hus, Hst, ⟨Hat, Hr⟩, Htok⟩
  ihave Hv := (sems0_eq (F := F) c) $$ [Hos Hus]
  · isplitl [Hos] <;> iassumption
  icases Hv with ⟨HL, Hv⟩
  imod (show iprop((bigSep Finset.univ fun k : CI => semVal (kcell (c, k)) 0) ∗ bigSep Finset.univ fun k : CI => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Htok]; · iexact Htok
  isplitl [HL]; · iexact HL
  iexact Hat

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (kcell (c, k))))
          ∗ (bigSep Finset.univ fun k => reached ER (kcell (c, k)) 0)
          ∗ toks c ∗ LocZ (F := F) c ∗ (bigSep Finset.univ fun k => atPos ER (kcell (c, k)) 0 ∅ 0)) : sProp 𝕄)
      ⊢ bigSep Finset.univ (G' m) := by
  rw [bigSep_sep', bigSep_sep', bigSep_sep', bigSep_sep',
    ← bigSep_univ_prod (fun ck : Dev nD × CI => iprop(∃ κ : ℕ, cellInv ER (ringRd m) κ (kcell ck))),
    ← bigSep_univ_prod (fun ck : Dev nD × CI => (reached ER (kcell ck) 0 : sProp 𝕄))]
  iintro ⟨HI, #HR, Htok, HL, Hat⟩
  ihave HK := (BI.bigSep_exists_pi Finset.univ (fun (ck : Dev nD × CI) (κ : ℕ) => (cellInv ER (ringRd m) κ (kcell ck) : sProp 𝕄))) $$ HI
  icases HK with ⟨%K, #HI⟩
  ihave Htk := (toks_around (F := F)) $$ Htok
  iapply (with_persistent (R := recs m K) (Φ := fun c => own₀ c) fun c _ => show iprop(recs m K ∗ own₀ c) ⊢ G' m c from by
    unfold G'; iintro H; iexists K; iexact H)
  isplitr
  · unfold recs; isplitl; · iexact HI
    iexact HR
  unfold own₀
  rw [bigSep_sep', bigSep_sep']
  isplitl [HL]; · iexact HL
  isplitl [Hat]; · iexact Hat
  iexact Htk

/-- Every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem ownU_split (a : UR sig nD τ) (b : UB) : (ownU ((a, (b, 1)) : UU) : sProp 𝕄) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

/-! ## The credit -/

/-- Which of a device's payments a receive cell gets. -/
def dueIx (d : Bool) (h : Fin 3) : ℕ := 2 * (2 - h.val) + (if d then 1 else 0)
theorem dueIx_lt (d : Bool) (h : Fin 3) : dueIx d h < 8 := by revert d h; decide
theorem dueAmt_ix (d : Bool) (h : Fin 3) : dueAmt (dueIx d h) = N := by cases d <;> fin_cases h <;> rfl

theorem due_r : ∀ (c x : Dev nD) (d : Bool) (h : Fin 3) (j : Fin 8), rCell d h c = dueCell x j.val ↔ x = step (!d) c ∧ j.val = dueIx d h := by decide +kernel
theorem due_bar : ∀ (c x : Dev nD) (j : Fin 8), barCell c = dueCell x j.val ↔ x = step false c ∧ j.val = 6 ∨ x = step true c ∧ j.val = 7 := by decide +kernel

theorem owed_at (x : Dev nD) (g : GSem nD τ sig) : owe x 8 g () = ∑ j : Fin 8, if g = dueCell x j.val then dueAmt j.val else 0 := by
  unfold owe
  rw [Finset.sum_apply, Finsupp.finset_sum_apply, ← Fin.sum_univ_eq_sum_range (fun j => (tallyAt (dueCell x j) () (dueAmt j) : CellTallies nD τ sig Unit) g ()) 8]
  refine Finset.sum_congr rfl fun j _ => ?_
  rw [tallyAt_apply]
  exact if_congr (and_iff_left rfl) rfl rfl

def O₀ (c : Dev nD) : CellTallies nD τ sig Unit := owe c 8

theorem owed_r (x c : Dev nD) (d : Bool) (h : Fin 3) : O₀ x (rCell d h c) () = if x = step (!d) c then N else 0 := by
  unfold O₀
  rw [owed_at]
  by_cases hx : x = step (!d) c
  · rw [if_pos hx, Finset.sum_eq_single (⟨dueIx d h, dueIx_lt d h⟩ : Fin 8)]
    · rw [if_pos ((due_r c x d h _).mpr ⟨hx, rfl⟩)]; exact dueAmt_ix d h
    · intro j _ hj; exact if_neg fun e => hj (Fin.ext ((due_r c x d h j).mp e).2)
    · intro hn; exact absurd (Finset.mem_univ _) hn
  · rw [if_neg hx]
    exact Finset.sum_eq_zero fun j _ => if_neg fun e => hx ((due_r c x d h j).mp e).1

theorem owed_bar (x c : Dev nD) : O₀ x (barCell c) () = (if x = step false c then 1 else 0) + (if x = step true c then 1 else 0) := by
  unfold O₀
  rw [owed_at]
  have hne : ∀ c : Dev nD, step false c ≠ step true c := by decide
  by_cases hf : x = step false c
  · rw [if_pos hf, if_neg (fun ht => hne c (hf.symm.trans ht)), Finset.sum_eq_single (6 : Fin 8)]
    · rw [if_pos ((due_bar c x 6).mpr (Or.inl ⟨hf, rfl⟩))]; rfl
    · intro j _ hj
      exact if_neg fun e => ((due_bar c x j).mp e).elim (fun h => hj (Fin.ext h.2)) (fun h => hne c (hf.symm.trans h.1))
    · intro hn; exact absurd (Finset.mem_univ _) hn
  · by_cases ht : x = step true c
    · rw [if_neg hf, if_pos ht, Finset.sum_eq_single (7 : Fin 8)]
      · rw [if_pos ((due_bar c x 7).mpr (Or.inr ⟨ht, rfl⟩))]; rfl
      · intro j _ hj
        exact if_neg fun e => ((due_bar c x j).mp e).elim (fun h => hf h.1) (fun h => hj (Fin.ext h.2))
      · intro hn; exact absurd (Finset.mem_univ _) hn
    · rw [if_neg hf, if_neg ht]
      exact Finset.sum_eq_zero fun j _ => if_neg fun e => ((due_bar c x j).mp e).elim (fun h => hf h.1) (fun h => ht h.1)

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun x _ => owed_bar x c, Finset.sum_add_distrib,
    Finset.sum_ite_eq' Finset.univ (step false c) fun _ => 1, Finset.sum_ite_eq' Finset.univ (step true c) fun _ => 1, if_pos (Finset.mem_univ _), if_pos (Finset.mem_univ _)]

theorem launch_r (c : Dev nD) (d : Bool) (h : Fin 3) :
    tallyOn (rCell d h c) (launchCredit (Pipeline.owing O₀) 0 (rCell d h c)) = (tallyAt (rCell d h c) () N : CellTallies nD τ sig Unit) := by
  unfold tallyAt; refine congrArg _ (Finsupp.ext fun u => ?_); cases u
  rw [Pipeline.launchCredit_owing, Finsupp.single_eq_same, Finset.sum_congr rfl fun x _ => owed_r x c d h, Finset.sum_ite_eq' Finset.univ (step (!d) c) fun _ => N,
    if_pos (Finset.mem_univ _)]

def rsem : RI → SemLoc sig
  | none => .reg barS
  | some (d, h) => .dma (rS d h)
theorem rsem_injective : Function.Injective rsem := by decide +kernel
/-- The credit a device waits with. -/
def wcred (c : Dev nD) : RI → sProp 𝕄
  | none => cred (tallyAt (barCell c) () 2)
  | some (d, h) => cred (tallyAt (rCell d h c) () N)

theorem creds (c : Dev nD) : (Pipeline.launchCred O₀ c : sProp 𝕄) ⊢ bigSep Finset.univ (wcred (F := F) c) := by
  unfold Pipeline.launchCred
  refine (bigSep_subset (Finset.subset_univ (Finset.univ.map ⟨rsem, rsem_injective⟩))).trans ?_
  rw [bigSep_map]
  refine bigSep_mono fun k _ => ?_
  rcases k with _ | ⟨d, h⟩
  · exact Entails.of_eq (congrArg cred (launch_bar c))
  · exact Entails.of_eq (congrArg cred (launch_r c d h))

/-- A device's tokens, credit and positions, as the body takes them. -/
theorem prot_intro (c : Dev nD) : iprop((bigSep Finset.univ fun k : CI => atPos ER (kcell (c, k)) 0 ∅ 0) ∗ payToks c ∗ bigSep Finset.univ (wcred (F := F) c))
    ⊢ (Prot (F := F) c : sProp 𝕄) := by
  unfold payToks
  rw [chain_CI, chain_TI, chain_RI]
  simp only [wcred]
  unfold Prot
  iintro ⟨⟨Ab, Ast0, Ast1, Ast2, Art0, Art1, Art2, Asf0, Asf1, Asf2, Arf0, Arf1, Arf2⟩, ⟨Tbt, Tbf, Tst0, Tst1, Tst2, Trt0, Trt1, Trt2, Tsf0, Tsf1, Tsf2, Trf0, Trf1, Trf2⟩, Cb, Ct0, Ct1, Ct2, Cf0, Cf1, Cf2⟩
  isplitl [Tbt]; · iexact Tbt
  isplitl [Tbf]; · iexact Tbf
  isplitl [Cb]; · iexact Cb
  isplitl [Ab]; · iexact Ab
  isplitl [Tst0 Trt0 Ct0 Art0 Ast0]
  · isplitl [Tst0 Trt0]
    · isplitl [Tst0]; · iexact Tst0
      iexact Trt0
    isplitl [Ct0 Art0]
    · isplitl [Ct0]; · iexact Ct0
      iexact Art0
    iexact Ast0
  isplitl [Tst1 Trt1 Ct1 Art1 Ast1]
  · isplitl [Tst1 Trt1]
    · isplitl [Tst1]; · iexact Tst1
      iexact Trt1
    isplitl [Ct1 Art1]
    · isplitl [Ct1]; · iexact Ct1
      iexact Art1
    iexact Ast1
  isplitl [Tst2 Trt2 Ct2 Art2 Ast2]
  · isplitl [Tst2 Trt2]
    · isplitl [Tst2]; · iexact Tst2
      iexact Trt2
    isplitl [Ct2 Art2]
    · isplitl [Ct2]; · iexact Ct2
      iexact Art2
    iexact Ast2
  isplitl [Tsf0 Trf0 Cf0 Arf0 Asf0]
  · isplitl [Tsf0 Trf0]
    · isplitl [Tsf0]; · iexact Tsf0
      iexact Trf0
    isplitl [Cf0 Arf0]
    · isplitl [Cf0]; · iexact Cf0
      iexact Arf0
    iexact Asf0
  isplitl [Tsf1 Trf1 Cf1 Arf1 Asf1]
  · isplitl [Tsf1 Trf1]
    · isplitl [Tsf1]; · iexact Tsf1
      iexact Trf1
    isplitl [Cf1 Arf1]
    · isplitl [Cf1]; · iexact Cf1
      iexact Arf1
    iexact Asf1
  isplitl [Tsf2 Trf2]
  · isplitl [Tsf2]; · iexact Tsf2
    iexact Trf2
  isplitl [Cf2 Arf2]
  · isplitl [Cf2]; · iexact Cf2
    iexact Arf2
  iexact Asf2

end Cert.KernelIdeal.Ring

end
-- ==== Proof.Cut.lean ====
/-
A buffer held whole cut into slots of a shape of their own, at contents nobody tracks, and the slots put together again.
-/
module

public import Idealize.ShloMosaic.Lib.Memref
public import Idealize.ShloMosaic.Lib.Ring
public import Idealize.ShloMosaic.Lib.Tactic

@[expose] public section

noncomputable section

namespace Cert.Steps

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U]

local notation "𝕄" => MT nD τ sig Unit Val ℕ U ℕ

variable {T : Type} [Fintype T] [DecidableEq T] (c : Thread nD τ) {sp : Space} {s s' : Shape} {e : EltTy} (M : Memref sig c.2.kind sp s e)
  (q : PosShare TreeShare) (r : T → Rect s) (hr : ∀ t, ∀ a, (r t).stride a = 1) (hq : ∀ t, (r t).shape.Squeezes s')

/-- The slots of a memref, each at some contents. -/
def slots (S : Finset T) : sProp 𝕄 := bigSep S fun t => iprop(∃ Y, owns c ((M.slice (r t) (hr t)).squeeze s' (hq t)) q Y)

/-- A memref at some contents under another shape of the same elements. -/
theorem any_squeeze {h : s.Squeezes s'} (X : s.Idx → Val e) : (owns c M q X : sProp 𝕄) ⊢ iprop(∃ Y, owns c (M.squeeze s' h) q Y) := by
  unfold owns
  iintro ⟨%g, -, H⟩
  iexists (M.squeeze s' h).view.read Val g
  iexists g
  isplitr; · ipureintro; rfl
  have e1 : (M.squeeze s' h).view.set = M.view.set := View.set_reshape _ _
  rw [e1]
  iexact H

variable (hd : ∀ t t', t ≠ t' → Disjoint (r t).set (r t').set) (hcov : ∀ i : s.Idx, ∃ t, i ∈ (r t).set)

include hd hcov in
theorem cut (X : s.Idx → Val e) : (owns c M q X : sProp 𝕄) ⊢ slots c M q r hr hq Finset.univ := by
  refine (owns_rects c M q r hr hd (Finset.eq_univ_of_forall fun i => ?_) X).trans (bigSep_mono fun t _ => any_squeeze c _ q _)
  obtain ⟨t, ht⟩ := hcov i
  exact Finset.mem_biUnion.mpr ⟨t, Finset.mem_univ t, ht⟩

include hd hcov in
theorem glue [∀ e, Nonempty (Val e)] : (slots c M q r hr hq Finset.univ : sProp 𝕄) ⊢ iprop(∃ X, owns c M q X) := by
  have hset : (Finset.univ : Finset T).biUnion (fun t => (M.view.slice (r t)).set) = M.view.set := by
    refine Finset.Subset.antisymm (Finset.biUnion_subset.mpr fun t _ => View.set_slice_subset _ _) fun i hi => ?_
    obtain ⟨j, -, rfl⟩ := Finset.mem_map.mp hi
    obtain ⟨t, ht⟩ := hcov j
    exact Finset.mem_biUnion.mpr ⟨t, Finset.mem_univ t, by rw [View.set_slice]; exact Finset.mem_map_of_mem _ ht⟩
  have hdis (t t' : T) (h : t ≠ t') : Disjoint (M.view.slice (r t)).set (M.view.slice (r t')).set := by
    rw [View.set_slice, View.set_slice]; exact (Finset.disjoint_map _).mpr (hd t t' h)
  have h1 : (slots c M q r hr hq Finset.univ : sProp 𝕄)
      ⊢ bigSep Finset.univ fun t => iprop(∃ f, M.view.loc c ↦[(M.view.slice (r t)).set]{q} f) := bigSep_mono fun t _ => by
    unfold owns
    show iprop(∃ Y f, ⌜((M.slice (r t) (hr t)).squeeze s' (hq t)).view.read Val f = Y⌝ ∗ M.view.loc c ↦[((M.slice (r t) (hr t)).squeeze s' (hq t)).view.set]{q} f) ⊢ _
    iintro ⟨%Y, %g, -, H⟩
    iexists g
    have e1 : ((M.slice (r t) (hr t)).squeeze s' (hq t)).view.set = (M.view.slice (r t)).set := View.set_reshape _ _
    rw [← e1]
    iexact H
  refine h1.trans ((Ring.pointsTo_sub_blocks_join_exists _ hdis M.view.set hset (fun _ => Classical.arbitrary _)).trans ?_)
  unfold owns
  iintro ⟨%g, H⟩
  iexists M.view.read Val g
  iexists g
  isplitr; · ipureintro; rfl
  iexact H

end Cert.Steps
-- ==== Proof.Run.lean ====
/-
The run of the whole program on four devices: the launch, the body on each device, and what the final memory holds.
-/
module

public import proofs.«01_k».proof.Proof.Deal
public import proofs.«01_k».proof.Proof.Cut
public import proofs.«01_k».proof.Proof.Gen.KernelIdeal.Points
public import Idealize.ShloMosaic.Lib.Pipeline.Value
public import Idealize.ShloMosaic.Lib.Pipeline.CollectiveSegs

@[expose] public section

noncomputable section

namespace Cert.KernelIdeal.Ring

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

variable (ρ : Dev nD → PrngReg)

/-! ## The buffers cut into their slots and glued again -/

theorem slot_disjoint (t t' : Fin 4) (h : t ≠ t') : Disjoint (slotRect t).set (slotRect t').set := by
  rw [Finset.disjoint_left]
  intro i h1 h2
  rw [Rect.mem_set_unit] at h1 h2
  have a1 := h1 0; have a2 := h2 0
  have b : S1x512x4096.size 0 = 1 := rfl
  have e1 : (![t.val, 0, 0] : Fin 3 → ℕ) 0 = t.val := rfl
  have e2 : (![t'.val, 0, 0] : Fin 3 → ℕ) 0 = t'.val := rfl
  rw [b] at a1 a2; rw [e1] at a1; rw [e2] at a2
  exact h (Fin.ext (by omega))
theorem slot_cover (i : S4x512x4096.Idx) : ∃ t, i ∈ (slotRect t).set := by
  refine ⟨⟨(i 0).val, (i 0).isLt⟩, ?_⟩
  rw [Rect.mem_set_unit]
  intro a
  fin_cases a
  · exact ⟨Nat.le_refl _, Nat.lt_succ_self _⟩
  · exact ⟨Nat.zero_le _, by have := (i 1).isLt; exact Nat.lt_of_lt_of_eq this (Nat.zero_add _).symm⟩
  · exact ⟨Nat.zero_le _, by have := (i 2).isLt; exact Nat.lt_of_lt_of_eq this (Nat.zero_add _).symm⟩

theorem ws_disjoint (t t' : Fin 2) (h : t ≠ t') : Disjoint (wsRect t).set (wsRect t').set := by
  rw [Finset.disjoint_left]
  intro i h1 h2
  rw [Rect.mem_set_unit] at h1 h2
  have a1 := h1 0; have a2 := h2 0
  have b : S1x4096x256.size 0 = 1 := rfl
  have e1 : (![t.val, 0, 0] : Fin 3 → ℕ) 0 = t.val := rfl
  have e2 : (![t'.val, 0, 0] : Fin 3 → ℕ) 0 = t'.val := rfl
  rw [b] at a1 a2; rw [e1] at a1; rw [e2] at a2
  exact h (Fin.ext (by omega))
theorem ws_cover (i : S2x4096x256.Idx) : ∃ t, i ∈ (wsRect t).set := by
  refine ⟨⟨(i 0).val, (i 0).isLt⟩, ?_⟩
  rw [Rect.mem_set_unit]
  intro a
  fin_cases a
  · exact ⟨Nat.le_refl _, Nat.lt_succ_self _⟩
  · exact ⟨Nat.zero_le _, by have := (i 1).isLt; exact Nat.lt_of_lt_of_eq this (Nat.zero_add _).symm⟩
  · exact ⟨Nat.zero_le _, by have := (i 2).isLt; exact Nat.lt_of_lt_of_eq this (Nat.zero_add _).symm⟩

theorem fin4 (Φ : Fin 4 → sProp 𝕄) : bigSep Finset.univ Φ = iprop(Φ 0 ∗ Φ 1 ∗ Φ 2 ∗ Φ 3) := bigSep_univ_eq_bigSepL [0, 1, 2, 3] (by decide) (by decide) Φ
theorem fin2 (Φ : Fin 2 → sProp 𝕄) : bigSep Finset.univ Φ = iprop(Φ 0 ∗ Φ 1) := bigSep_univ_eq_bigSepL [0, 1] (by decide) (by decide) Φ

theorem buf_cut (d : Bool) (c : Dev nD) (X : S4x512x4096.Idx → Elt F .fp8e4m3) :
    owns (c : Thread nD τ) (bufM d) fullShare X ⊢ (iprop(anySlot (F := F) d 0 c ∗ land (F := F) d c) : sProp 𝕄) := by
  unfold land
  refine (cut (c : Thread nD τ) (bufM d) fullShare slotRect (fun _ _ => rfl) (fun _ => squeezes_S1x512x4096_S512x4096) slot_disjoint slot_cover X).trans ?_
  unfold slots
  rw [fin4]
theorem buf_glue (d : Bool) (c : Dev nD) :
    (iprop(anySlot (F := F) d 0 c ∗ land (F := F) d c) : sProp 𝕄) ⊢ iprop(∃ X, owns (c : Thread nD τ) (bufM d) fullShare X) := by
  unfold land
  refine BI.Entails.trans ?_ (glue (c : Thread nD τ) (bufM d) fullShare slotRect (fun _ _ => rfl) (fun _ => squeezes_S1x512x4096_S512x4096) slot_disjoint slot_cover)
  unfold slots
  rw [fin4]
  exact BI.Entails.refl _

theorem ws_cut (c : Dev nD) (X : S2x4096x256.Idx → Elt F .f32) :
    owns (c : Thread nD τ) (Memref.whole cc0_scratch3) fullShare X ⊢ (iprop((∃ X, WS (F := F) c 0 X) ∗ ∃ X, WS (F := F) c 1 X) : sProp 𝕄) := by
  refine (cut (c : Thread nD τ) (Memref.whole cc0_scratch3) fullShare wsRect (fun _ _ => rfl) (fun _ => squeezes_S1x4096x256_S4096x256) ws_disjoint ws_cover X).trans ?_
  unfold slots
  rw [fin2]
  exact BI.Entails.refl _
theorem ws_glue (c : Dev nD) :
    (iprop((∃ X, WS (F := F) c 0 X) ∗ ∃ X, WS (F := F) c 1 X) : sProp 𝕄) ⊢ iprop(∃ X, owns (c : Thread nD τ) (Memref.whole cc0_scratch3) fullShare X) := by
  refine BI.Entails.trans ?_ (glue (c : Thread nD τ) (Memref.whole cc0_scratch3) fullShare wsRect (fun _ _ => rfl) (fun _ => squeezes_S1x4096x256_S4096x256) ws_disjoint ws_cover)
  unfold slots
  rw [fin2]
  exact BI.Entails.refl _

/-- The two arrays the body reads by copies, as launched. -/
def arrs (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1)))

theorem mem_intro (c : Dev nD) : iprop(arrs m c ∗ Pipeline.scopedRest cfg0.spec c) ⊢ MemSt m c := by
  rw [scopedRest0_eq]
  unfold arrs MemSt
  iintro ⟨⟨HA, HB⟩, ⟨%f0, H0⟩, ⟨%f1, H1⟩, ⟨%f2, H2⟩, ⟨%f3, H3⟩, ⟨%f4, H4⟩⟩
  ihave HB := (show (iprop(((c : Thread nD τ).loc main_arg1) ↦{fullShare} m ((c : Thread nD τ).loc main_arg1)) : sProp 𝕄) ⊢ iprop(WA m c 0 ∗ WA m c 1) from
    (Entails.of_eq (owns_whole (c : Thread nD τ) main_arg1 fullShare (wbuf m c)).symm).trans (owns_halves (c : Thread nD τ) (Memref.whole main_arg1) fullShare (wbuf m c)).1) $$ HB
  ihave H0 := ((Entails.of_eq (owns_whole (c : Thread nD τ) cc0_scratch0 fullShare f0).symm).trans (buf_cut true c f0)) $$ H0
  ihave H1 := ((Entails.of_eq (owns_whole (c : Thread nD τ) cc0_scratch1 fullShare f1).symm).trans (buf_cut false c f1)) $$ H1
  ihave H3 := ((Entails.of_eq (owns_whole (c : Thread nD τ) cc0_scratch3 fullShare f3).symm).trans (ws_cut c f3)) $$ H3
  icases HB with ⟨HB0, HB1⟩
  icases H0 with ⟨H00, H01⟩
  icases H1 with ⟨H10, H11⟩
  icases H3 with ⟨H30, H31⟩
  isplitl [HA]
  · iapply (Entails.of_eq (owns_whole (c : Thread nD τ) main_arg0 fullShare (xbuf m c)).symm); iexact HA
  isplitl [H4]
  · iexists f4; iapply (Entails.of_eq (owns_whole (c : Thread nD τ) cc0_scratch4 fullShare f4).symm); iexact H4
  isplitl [HB0]; · iexact HB0
  isplitl [HB1]; · iexact HB1
  isplitl [H30]; · iexact H30
  isplitl [H31]; · iexact H31
  isplitl [H2]
  · iexists f2; iapply (Entails.of_eq (owns_whole (c : Thread nD τ) cc0_scratch2 fullShare f2).symm); iexact H2
  isplitl [H00]; · iexact H00
  isplitl [H01]; · iexact H01
  isplitl [H10]; · iexact H10
  iexact H11

theorem mem_exit (c : Dev nD) : MemSt m c ⊢ iprop(arrs m c ∗ Pipeline.scopedRest cfg0.spec c) := by
  rw [scopedRest0_eq]
  unfold arrs MemSt
  iintro ⟨HA, ⟨%f4, H4⟩, HB0, HB1, H30, H31, ⟨%f2, H2⟩, H00, H01, H10, H11⟩
  ihave HB := (show iprop(WA m c 0 ∗ WA m c 1) ⊢ _ from
    (owns_halves (c : Thread nD τ) (Memref.whole main_arg1) fullShare (wbuf m c)).2.trans (Entails.of_eq (owns_whole (c : Thread nD τ) main_arg1 fullShare (wbuf m c)))) $$ [HB0 HB1]
  · isplitl [HB0] <;> iassumption
  ihave H0 := (buf_glue (F := F) true c) $$ [H00 H01]
  · isplitl [H00] <;> iassumption
  ihave H1 := (buf_glue (F := F) false c) $$ [H10 H11]
  · isplitl [H10] <;> iassumption
  ihave H3 := (ws_glue (F := F) c) $$ [H30 H31]
  · isplitl [H30] <;> iassumption
  icases H0 with ⟨%f0, H0⟩
  icases H1 with ⟨%f1, H1⟩
  icases H3 with ⟨%f3, H3⟩
  isplitl [HA HB]
  · isplitl [HA]
    · iapply (Entails.of_eq (owns_whole (c : Thread nD τ) main_arg0 fullShare (xbuf m c))); iexact HA
    iexact HB
  isplitl [H0]
  · iexists f0; iapply (Entails.of_eq (owns_whole (c : Thread nD τ) cc0_scratch0 fullShare f0)); iexact H0
  isplitl [H1]
  · iexists f1; iapply (Entails.of_eq (owns_whole (c : Thread nD τ) cc0_scratch1 fullShare f1)); iexact H1
  isplitl [H2]
  · iexists f2; iapply (Entails.of_eq (owns_whole (c : Thread nD τ) cc0_scratch2 fullShare f2)); iexact H2
  isplitl [H3]
  · iexists f3; iapply (Entails.of_eq (owns_whole (c : Thread nD τ) cc0_scratch3 fullShare f3)); iexact H3
  iexists f4; iapply (Entails.of_eq (owns_whole (c : Thread nD τ) cc0_scratch4 fullShare f4)); iexact H4

/-! ## The pipeline's data: one point, two scales in, the result out -/

/-- What a device starts from. -/
def start (c : Dev nD) : sProp 𝕄 := iprop(G' m c ∗ bigSep Finset.univ (wcred (F := F) c) ∗ levAts L lv ∗ arrs m c)
def Φ₀ (c : Dev nD) : sProp 𝕄 := iprop(∃ K, recs m K ∗ levAts L lv ∗ MemSt m c ∗ LocZ (F := F) c ∗ Prot (F := F) c)
def Φ₁ (c : Dev nD) : sProp 𝕄 := iprop(MemSt m c ∗ LocZ (F := F) c ∗ ProtZ (F := F) c)

def dats (_ : Fin 1) (c : Dev nD) : Dat τ (Elt F) Unit ℕ UU ℕ cfg0 c where
  A w := m ((cfg0.win w).arr.view.loc (c : Thread nD τ))
  after w _ := match w with
    | ⟨0, _⟩ => (m ((c : Thread nD τ).loc main_arg2) : S1.Idx → Elt F .f32)
    | ⟨1, _⟩ => (m ((c : Thread nD τ).loc main_arg3) : S1.Idx → Elt F .f32)
    | ⟨2, _⟩ => outT m c
    | ⟨_ + 3, h⟩ => absurd h (Nat.not_lt.2 (Nat.le_add_left _ _))
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

theorem before_0 (c : Dev nD) (d) : (dats m 0 c).before (0 : Fin 3) t0_0 d = (m ((c : Thread nD τ).loc main_arg2) : S1.Idx → Elt F .f32) := by
  unfold Dat.before; rw [if_pos (fetch0_0 t0_0)]
  have hz : (fun a => win0_0.index t0_0 a * main_arg2.ty.shape.size a) = fun _ => 0 := funext fun a => Nat.zero_mul _
  exact Memref.read_access_unit_zero (Elt F) main_arg2 hz (fun a => by rw [congrFun hz a]; simp) (m ((c : Thread nD τ).loc main_arg2))
theorem before_1 (c : Dev nD) (d) : (dats m 0 c).before (1 : Fin 3) t0_0 d = (m ((c : Thread nD τ).loc main_arg3) : S1.Idx → Elt F .f32) := by
  unfold Dat.before; rw [if_pos (fetch0_1 t0_0)]
  have hz : (fun a => win0_1.index t0_0 a * main_arg3.ty.shape.size a) = fun _ => 0 := funext fun a => Nat.zero_mul _
  exact Memref.read_access_unit_zero (Elt F) main_arg3 hz (fun a => by rw [congrFun hz a]; simp) (m ((c : Thread nD τ).loc main_arg3))

def pre' (c : Dev nD) : sProp 𝕄 :=
  iprop(Φ₀ m c ∗ (dats m 0 c).owesAt () t0_0.castSucc
    ∗ (∃ d, owns (c : Thread nD τ) (Memref.whole cc0_stg0_0) fullShare ((dats m 0 c).before (0 : Fin 3) t0_0 d))
    ∗ (∃ d, owns (c : Thread nD τ) (Memref.whole cc0_stg1_0) fullShare ((dats m 0 c).before (1 : Fin 3) t0_0 d))
    ∗ (∃ d, owns (c : Thread nD τ) (Memref.whole cc0_stg2_0) fullShare ((dats m 0 c).before (2 : Fin 3) t0_0 d)))
def post' (c : Dev nD) : sProp 𝕄 :=
  iprop(Φ₁ m c ∗ (dats m 0 c).owesAt () t0_0.succ
    ∗ owns (c : Thread nD τ) (Memref.whole cc0_stg0_0) fullShare (m ((c : Thread nD τ).loc main_arg2) : S1.Idx → Elt F .f32)
    ∗ owns (c : Thread nD τ) (Memref.whole cc0_stg1_0) fullShare (m ((c : Thread nD τ).loc main_arg3) : S1.Idx → Elt F .f32)
    ∗ owns (c : Thread nD τ) (Memref.whole cc0_stg2_0) fullShare (outT m c))

theorem pre_body (c : Dev nD) : pre' m c ⊢ iprop(∃ K, BodyPre m K c) := by
  unfold pre' Φ₀ BodyPre Dat.owesAt Pipeline.owesWithin
  iintro ⟨⟨%K, HR, HL, HM, HZ, HP⟩, ⟨%W, -, HO⟩, ⟨%d0, H0⟩, ⟨%d1, H1⟩, ⟨%d2, H2⟩⟩
  ihave H0 := (Entails.of_eq (congrArg (owns (c : Thread nD τ) (Memref.whole cc0_stg0_0) fullShare) (before_0 m c d0))) $$ H0
  ihave H1 := (Entails.of_eq (congrArg (owns (c : Thread nD τ) (Memref.whole cc0_stg1_0) fullShare) (before_1 m c d1))) $$ H1
  iexists K
  isplitl [HO]; · unfold Ow; iexists W; iexact HO
  isplitl [H0]; · iexact H0
  isplitl [H1]; · iexact H1
  isplitl [H2]; · iexists _; iexact H2
  isplitl [HR]; · iexact HR
  isplitl [HL]; · iexact HL
  isplitl [HM]; · iexact HM
  isplitl [HZ]; · iexact HZ
  iexact HP

theorem post_body (c : Dev nD) : BodyPost m c ⊢ post' m c := by
  unfold post' Φ₁ BodyPost Dat.owesAt Pipeline.owesWithin Ow
  iintro ⟨⟨%W, HO⟩, H0, H1, H2, HM, HZ, HP⟩
  isplitl [HM HZ HP]
  · isplitl [HM]; · iexact HM
    isplitl [HZ]; · iexact HZ
    iexact HP
  isplitl [HO]
  · iexists W
    isplitr; · ipureintro; exact fun _ _ => Or.inl trivial
    rw [owe_zero]; iexact HO
  isplitl [H0]; · iexact H0
  isplitl [H1]; · iexact H1
  iexact H2

set_option maxRecDepth 20000 in
theorem body_obligation (c : Dev nD) : BodyObligation (dats (F := F) m 0 c) (defs₀ (F := F)) 𝒱₀ () Set.univ := fun t => by
  rw [fin_N0 t]
  rw [bigSep_W0, bigSep_W0]
  show pre' m c ⊢ wp frame (wpE (defs₀ (F := F)) 𝒱₀ (c : Thread nD τ) none) Set.univ
    (cc0_body (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10) (fun _ => post' m c)
  iintro H
  ihave H := (pre_body m c) $$ H
  icases H with ⟨%K, H⟩
  iapply (body_run m K c (Q := fun _ => post' m c)) $$ H
  iintro H
  iapply (post_body m c); iexact H

/-! ## The launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start arrs
  iintro ⟨HA, Hlev, Hcr, -, HG⟩
  ihave Hc := (creds (F := F) c) $$ Hcr
  imodintro
  isplitl
  · isplitl [HG]; · iexact HG
    isplitl [Hc]; · iexact Hc
    isplitl [Hlev]; · iexact Hlev
    iexact HA
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀ start G' own₀
  iintro ⟨⟨⟨%K, HR, HZ, HA, HT⟩, Hc, HL, Harr⟩, -, Hs⟩
  iexists K
  isplitl [HR]; · iexact HR
  isplitl [HL]; · iexact HL
  isplitl [Harr Hs]
  · iapply (mem_intro m c); isplitl [Harr] <;> iassumption
  isplitl [HZ]; · iexact HZ
  iapply (prot_intro (F := F) c)
  isplitl [HA]; · iexact HA
  isplitl [HT] <;> iassumption

theorem phi1_exit (c : Dev nD) :
    (dats m 0 c).Φ (Fin.last cfg0.N) ⊢ iprop((unscopedSems0 c ∗ arrs m c) ∗ Pipeline.ownSems0 osem c ∗ Pipeline.scopedRest cfg0.spec c) := by
  rw [show (dats m 0 c).Φ (Fin.last cfg0.N) = Φ₁ m c from rfl]
  unfold Φ₁
  iintro ⟨HM, HZ, HP⟩
  ihave Hs := (sems_back (F := F) c) $$ [HZ HP]
  · isplitl [HZ] <;> iassumption
  ihave HM := (mem_exit m c) $$ HM
  icases Hs with ⟨Hu, Ho⟩
  icases HM with ⟨HA, HM⟩
  isplitl [Hu HA]
  · isplitl [Hu] <;> iassumption
  isplitl [Ho] <;> iassumption

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c _ 8 (by fin_cases w <;> fin_cases s <;> decide)
    · show (levAts L lv : sProp 𝕄) ⊢ MayWait _ _ _ (0 : CellTallies nD τ sig Unit)
      rw [MayWait_zero]; exact fun _ _ => trivial

/-! ## The run -/

/-- What device `c`'s memory holds at the end. -/
structure Ends (c : Dev nD) (s : Idealize.ShloMosaic.MemSt nD τ sig (Elt F)) : Prop where
  res : s.mem ((c : Thread nD τ).loc main_v1) = outT m c
  a0 : s.mem ((c : Thread nD τ).loc main_arg0) = m ((c : Thread nD τ).loc main_arg0)
  a1 : s.mem ((c : Thread nD τ).loc main_arg1) = m ((c : Thread nD τ).loc main_arg1)
  a2 : s.mem ((c : Thread nD τ).loc main_arg2) = m ((c : Thread nD τ).loc main_arg2)
  a3 : s.mem ((c : Thread nD τ).loc main_arg3) = m ((c : Thread nD τ).loc main_arg3)

theorem arr_out (c : Dev nD) : (dats m 0 c).arrAt (2 : Fin 3) cfg0.N = outT m c :=
  (dats m 0 c).arrAt_eq_of_cover (2 : Fin 3) (outT m c)
    (fun t _ => by
      rw [fin_N0 t]
      have hz : (fun a => win0_2.index t0_0 a * main_v1.ty.shape.size a) = fun _ => 0 := funext fun a => Nat.zero_mul _
      exact (Memref.read_access_unit_zero (Elt F) main_v1 hz (fun a => by rw [congrFun hz a]; simp) (outT m c)).symm)
    (fun i => ⟨t0_0, flush0_2 t0_0, by
      show i ∈ ((View.whole main_v1).slice (win0_2.rect t0_0)).set
      rw [View.set_slice_whole, Rect.mem_set_unit]
      intro a
      have h := (i a).isLt
      have hz : win0_2.index t0_0 a * win0_2.size a = 0 := Nat.zero_mul _
      refine ⟨?_, ?_⟩
      · show win0_2.index t0_0 a * win0_2.size a ≤ _
        rw [hz]; exact Nat.zero_le _
      · show _ < win0_2.index t0_0 a * win0_2.size a + _
        rw [hz, Nat.zero_add]; exact h⟩)

theorem read_end (c : Dev nD) (s' : Phys nD τ sig (Elt F)) :
    iprop((unscopedSems0 c ∗ arrs m c) ∗ emp ∗ SI s')
      ⊢ (|={Set.univ}=> iprop(⌜(∀ sm : SemLoc sig, sm.isScoped .tc = false → s'.mem.sem ((c.tc : Thread nD τ), sm) = 0)
          ∧ s'.mem.mem ((c : Thread nD τ).loc main_arg0) = m ((c : Thread nD τ).loc main_arg0)
          ∧ s'.mem.mem ((c : Thread nD τ).loc main_arg1) = m ((c : Thread nD τ).loc main_arg1)⌝ ∗ SI s') : sProp 𝕄) := by
  unfold arrs
  iintro ⟨⟨Hu, HA, HB⟩, -, HSI⟩
  icombine HSI HA gives %hA
  icombine HSI HB gives %hB
  imod (Pipeline.unscopedSems0_read (X := unscopedSems0 c) (c := c) fupd_intro s') $$ [Hu HSI] with ⟨%hs, HSI⟩
  · isplitl [Hu] <;> iassumption
  imodintro
  isplitr
  · ipureintro
    exact ⟨hs, Buf.eq_of_forall_mem_univ hA, Buf.eq_of_forall_mem_univ hB⟩
  iexact HSI

set_option maxRecDepth 8000 in
/-- From any memory with zero semaphores every fair run ends, the result in place, the arguments and semaphores as they were. -/
theorem run_main : θ_run defs (onTc (τ := τ) (main (F := F))) ⟨m, fun _ => 0, ρ⟩ (fun r => (∀ c : Dev nD, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ arrs m c)) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg0) = m ((c : Thread nD τ).loc main_arg0)
      ∧ s.mem ((c : Thread nD τ).loc main_arg1) = m ((c : Thread nD τ).loc main_arg1))
    (hY := fun c s' => read_end m c s')
    (hQ := fun _ h hs => ⟨fun c =>
      { res := ((h c).1 (2 : Fin 3)).trans (arr_out m c)
        a0 := (h c).2.2.2.1
        a1 := (h c).2.2.2.2
        a2 := ((h c).1 (0 : Fin 3)).trans ((dats m 0 c).arrAt_in (0 : Fin 3) rfl _)
        a3 := ((h c).1 (1 : Fin 3)).trans ((dats m 0 c).arrAt_in (1 : Fin 3) rfl _) },
      sem_eq_zero hs fun c => (h c).2.2.1⟩)

end Cert.KernelIdeal.Ring

end
-- ==== Proof.Value.lean ====
/-
Over the reals the result a device ends with is its block of columns of the reference's result: both are the same sum along the
contracted axis, times the product of the two scales.
-/
module

public import proofs.«01_k».proof.Proof.Run
public import proofs.«01_k».proof.Proof.Gen.ReferenceIdeal.Run
public import Idealize.ShloMosaic.Lib.KernelVsHost
public import Idealize.ShloMosaic.Lib.StackMember
public import Idealize.ShloMosaic.Lib.Layout

@[expose] public section

noncomputable section

namespace Cert.KernelIdeal.Ring

open Cert.KernelIdeal Cert.KernelIdeal.Gen
open Idealize.ShloMosaic
open Idealize.ShloMosaic.TcCoe
open Idealize.ShloMosaic.ValueIdx Idealize.ShloMosaic.StackMember

/-- A block of the product read at one place. -/
theorem mm_at (X : FVec Ideal S512x4096 .fp8e4m3) (W : FVec Ideal S4096x2048 .fp8e5m2) (a : Fin 512) (b : Fin 2048) :
    mm X W (ix2 a b) = ∑ k : Fin 4096, X (ix2 a k) * W (ix2 k b) :=
  (congrFun (matmul_zero_eq_dotGeneral _ none X W) _).trans (dotGeneral_plain_apply (m := 512) (k := 4096) (n := 2048) none X W a b)

/-- The reference's result, of its arguments. -/
def refOut (x : FVec Ideal Cert.ReferenceIdeal.S4096x4096 .f32) (w : FVec Ideal Cert.ReferenceIdeal.S4096x8192 .f32)
    (s t : FVec Ideal Cert.ReferenceIdeal.S1 .f32) : FVec Ideal Cert.ReferenceIdeal.S4096x8192 .bf16 :=
  truncf .bf16 (mulf (Host.dotGeneral Cert.ReferenceIdeal.dot_S4096x4096_S4096x8192_S4096x8192_1_0_0_1_n_n none x w)
    (broadcastInDim Cert.ReferenceIdeal.S4096x8192 ![0, 1] Cert.ReferenceIdeal.Gen.bcast_S1x1_S4096x8192_0_1
      (broadcastInDim Cert.ReferenceIdeal.S1x1 ![1] Cert.ReferenceIdeal.Gen.bcast_S1_S1x1_1 (mulf s t)))) Cert.ReferenceIdeal.Gen.bitsLt_bf16_f32

/-- It read at one place. -/
theorem refOut_at (x : FVec Ideal Cert.ReferenceIdeal.S4096x4096 .f32) (w : FVec Ideal Cert.ReferenceIdeal.S4096x8192 .f32)
    (s t : FVec Ideal Cert.ReferenceIdeal.S1 .f32) (a : Fin 4096) (b : Fin 8192) :
    refOut x w s t (ix2 a b) = (∑ k : Fin 4096, x (ix2 a k) * w (ix2 k b)) * (s i0 * t i0) := by
  have h := dotGeneral_plain_apply (m := 4096) (k := 4096) (n := 8192) none x w a b
  rw [← h]
  have e : ∃ y : S1.Idx, refOut x w s t (ix2 a b) = Host.dotGeneral (DotDims.plain 4096 4096 8192) none x w (ix2 a b) * (s y * t y) := ⟨_, rfl⟩
  obtain ⟨y, hy⟩ := e
  rw [hy, s1_all y]

/-- The result on device `c` is its block of columns. -/
theorem outT_eq (m : (ℓ : Loc nD τ sig) → Buf (Elt Ideal) ℓ) (x : FVec Ideal Cert.ReferenceIdeal.S4096x4096 .f32)
    (w : FVec Ideal Cert.ReferenceIdeal.S4096x8192 .f32) (s t : FVec Ideal Cert.ReferenceIdeal.S1 .f32)
    (hx : ∀ c : Dev nD, m ((c : Thread nD τ).loc main_arg0) = Layout.block ⟨2, ![1024, 4096]⟩ ⟨2, ![4096, 4096]⟩ 0 4 c x) (c : Dev nD)
    (hw : m ((c : Thread nD τ).loc main_arg1) = w) (hs : m ((c : Thread nD τ).loc main_arg2) = s)
    (ht : m ((c : Thread nD τ).loc main_arg3) = t) :
    outT m c = Layout.block ⟨2, ![4096, 2048]⟩ ⟨2, ![4096, 8192]⟩ 1 4 c (refOut x w s t) := by
  funext i
  have hi0 : (i 0).val < 4096 := (i 0).isLt
  have hi1 : (i 1).val < 2048 := (i 1).isLt
  have hc : c.val < 4 := c.isLt
  have hidx : ∀ h : Layout.Tiles ⟨2, ![4096, 2048]⟩ ⟨2, ![4096, 8192]⟩ 1 4,
      h.idx c i = ix2 (⟨(i 0).val, hi0⟩ : Fin 4096) (⟨c.val * 2048 + (i 1).val, by omega⟩ : Fin 8192) := fun h => by
    funext a; refine Fin.ext ?_
    match a with
    | ⟨0, _⟩ => rfl
    | ⟨1, _⟩ => rfl
  rw [Layout.block_apply, hidx, refOut_at]
  have hin : rowIn i = ix2 (⟨(i 0).val % 512, Nat.mod_lt _ (by decide)⟩ : Fin 512) (⟨(i 1).val, hi1⟩ : Fin 2048) := by
    funext a
    match a with
    | ⟨0, _⟩ => rfl
    | ⟨1, _⟩ => rfl
  have hscl : scl m c = s i0 * t i0 := by
    rw [← hs, ← ht]; rfl
  have hblk : outT m c i = mm (x8 m (rowHalf i) (rowDev i)) (w8 m c) (rowIn i) * scl m c := rfl
  rw [hblk, hscl, hin, mm_at]
  congr 1
  refine Finset.sum_congr rfl fun k _ => congrArg₂ (· * ·) ?_ ?_
  · have e : x8 m (rowHalf i) (rowDev i) (ix2 (⟨(i 0).val % 512, Nat.mod_lt _ (by decide)⟩ : Fin 512) k)
        = m (((rowDev i : Dev nD) : Thread nD τ).loc main_arg0) ((xRect (rowHalf i)).emb (ix2 (⟨(i 0).val % 512, Nat.mod_lt _ (by decide)⟩ : Fin 512) k)) := rfl
    rw [e, hx, Layout.block_apply]
    congr 1
    funext a; refine Fin.ext ?_
    match a with
    | ⟨0, _⟩ =>
      show (i 0).val / 1024 * 1024 + ((if rowHalf i then 0 else 512) + 1 * ((i 0).val % 512)) = (i 0).val
      unfold rowHalf
      by_cases h : (i 0).val % 1024 < 512
      · simp only [h, decide_true, if_true]; omega
      · simp only [h, decide_false, Bool.false_eq_true, if_false]; omega
    | ⟨1, _⟩ =>
      show 0 + 1 * k.val = k.val
      omega
  · have e : w8 m c (ix2 k (⟨(i 1).val, hi1⟩ : Fin 2048))
        = m ((c : Thread nD τ).loc main_arg1) ((wCols c).emb (ix2 k (⟨(i 1).val, hi1⟩ : Fin 2048))) := rfl
    rw [e, hw]
    congr 1
    funext a; refine Fin.ext ?_
    match a with
    | ⟨0, _⟩ =>
      show 0 + 1 * k.val = k.val
      omega
    | ⟨1, _⟩ =>
      show 2048 * c.val + 1 * (i 1).val = c.val * 2048 + (i 1).val
      omega

end Cert.KernelIdeal.Ring

end
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.Float.Run
public import proofs.«01_k».proof.Proof.Value
public import Idealize.ShloMosaic.Adequacy
public import Idealize.ShloMosaic.Init

@[expose] public section

noncomputable section

namespace Cert.Proof

open Idealize.ShloMosaic Idealize.SL.Sem

/-- The kernel with its rounded floats ends with its arguments as they were and every counter at zero. -/
theorem frame_kernel : Cert.quiescent_Kernel (hKernel := Cert.Kernel.Gen.facts) := fun m g _ =>
  (θ_run _ _ _).mono (fun _ h => ⟨fun c => ⟨(h.1 c).a0, (h.1 c).a1, (h.1 c).a2, (h.1 c).a3⟩, h.2⟩) (Cert.Kernel.Ring.run_main m g)

/-- So does the kernel over the reals. -/
theorem frame_ideal : Cert.quiescent_KernelIdeal (hKernelIdeal := Cert.KernelIdeal.Gen.facts) := fun m g _ =>
  (θ_run _ _ _).mono (fun _ h => ⟨fun c => ⟨(h.1 c).a0, (h.1 c).a1, (h.1 c).a2, (h.1 c).a3⟩, h.2⟩) (Cert.KernelIdeal.Ring.run_main m g)

/-- So does the reference, which has no counter. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- Each device ends with its block of columns of what the reference computes. -/
theorem value : Cert.algebraic_KernelIdeal_ReferenceIdeal (hKernelIdeal := Cert.KernelIdeal.Gen.facts)
    (hReferenceIdeal := Cert.ReferenceIdeal.Gen.facts) := fun m g m' g' _ hm =>
  ⟨_, (θ_run _ _ _).mono (fun _ h c => ⟨(h.1 c).res.trans (Cert.KernelIdeal.Ring.outT_eq m _ _ _ _ (fun d => (hm d).1) c
        (hm c).2.1 (hm c).2.2.1 (hm c).2.2.2), (h.1 c).a0, (h.1 c).a1, (h.1 c).a2, (h.1 c).a3⟩) (Cert.KernelIdeal.Ring.run_main m g),
    (θ_run _ _ _).mono (fun _ h => h 0) (Cert.ReferenceIdeal.Value.run m' g')⟩

theorem claim : Cert.Claim := ⟨Cert.Kernel.Gen.facts, Cert.KernelIdeal.Gen.facts, Cert.ReferenceIdeal.Gen.facts,
  frame_kernel, frame_ideal, frame_reference, trivial, value⟩

end Cert.Proof

end
